-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S16x2048 : Shape := ⟨2, ![16, 2048]⟩
abbrev S16 : Shape := ⟨1, ![16]⟩
abbrev S_ : Shape := ⟨0, ![]⟩

class Facts : Prop where
  bcast_S_S16384x2048 : S_.BroadcastsInDim S16384x2048 (![] : Fin 0 → Fin S16384x2048.rank)
  bcast_S_S16x2048 : S_.BroadcastsInDim S16x2048 (![] : Fin 0 → Fin S16x2048.rank)
  bcast_S_S16 : S_.BroadcastsInDim S16 (![] : Fin 0 → Fin S16.rank)

variable [Facts]

def fn {F : FTy → Type} [FloatOps F] (main_arg0 : FVec F S16384x2048 .f32) (main_arg1 : FVec F S16x2048 .f32) (main_arg2 : FVec F S16 .f32) : IVec S16384x2048 1 × IVec S16x2048 1 × IVec S16 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S16 .f32 := Host.absf main_arg2
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S16384x2048 : Shape := ⟨2, ![16384, 2048]⟩
abbrev S16x2048 : Shape := ⟨2, ![16, 2048]⟩
abbrev S16 : Shape := ⟨1, ![16]⟩
abbrev S16x1 : Shape := ⟨2, ![16, 1]⟩
abbrev S2x128x8x128 : Shape := ⟨4, ![2, 128, 8, 128]⟩
abbrev S1024x2048 : Shape := ⟨2, ![1024, 2048]⟩
abbrev S2x8x8x128 : Shape := ⟨4, ![2, 8, 8, 128]⟩
abbrev S16x1024 : Shape := ⟨2, ![16, 1024]⟩
abbrev S8x1024 : Shape := ⟨2, ![8, 1024]⟩
abbrev S8x128 : Shape := ⟨2, ![8, 128]⟩
abbrev S1x1x8x128 : Shape := ⟨4, ![1, 1, 8, 128]⟩
abbrev S262144 : Shape := ⟨1, ![262144]⟩
abbrev S16384 : Shape := ⟨1, ![16384]⟩
abbrev S32x16 : Shape := ⟨2, ![32, 16]⟩
abbrev S8192 : Shape := ⟨1, ![8192]⟩
abbrev S512 : Shape := ⟨1, ![512]⟩
abbrev S256 : Shape := ⟨1, ![256]⟩
abbrev S_ : Shape := ⟨0, ![]⟩
abbrev S1024 : Shape := ⟨1, ![1024]⟩
abbrev S1 : Shape := ⟨1, ![1]⟩
abbrev S1x16 : Shape := ⟨2, ![1, 16]⟩
abbrev S1x1 : Shape := ⟨2, ![1, 1]⟩
abbrev S16384x1 : Shape := ⟨2, ![16384, 1]⟩
abbrev S16384x2 : Shape := ⟨2, ![16384, 2]⟩

abbrev nBuf : Table → Nat
  | .hbm => 20
  | .local .tc .vmem => 8
  | .local .tc .smem => 1
  | .local .scVector .vmem => 9
  | _ => 0

abbrev bufTy : (tb : Table) → Fin (nBuf tb) → BufTy
  | .hbm, ⟨0, _⟩ => ⟨S16384x2048, .f32⟩
  | .hbm, ⟨1, _⟩ => ⟨S16x2048, .f32⟩
  | .hbm, ⟨2, _⟩ => ⟨S16, .f32⟩
  | .hbm, ⟨3, _⟩ => ⟨S16x1, .f32⟩
  | .hbm, ⟨4, _⟩ => ⟨S2x128x8x128, .f32⟩
  | .hbm, ⟨5, _⟩ => ⟨S262144, .f32⟩
  | .hbm, ⟨6, _⟩ => ⟨S16384, .i32⟩
  | .hbm, ⟨7, _⟩ => ⟨S16384, .i32⟩
  | .hbm, ⟨8, _⟩ => ⟨S16384, .f32⟩
  | .hbm, ⟨9, _⟩ => ⟨S16384, .f32⟩
  | .hbm, ⟨10, _⟩ => ⟨S32x16, .f32⟩
  | .hbm, ⟨11, _⟩ => ⟨S32x16, .f32⟩
  | .hbm, ⟨12, _⟩ => ⟨S1x1, .f32⟩
  | .hbm, ⟨13, _⟩ => ⟨S_, .f32⟩
  | .hbm, ⟨14, _⟩ => ⟨S16384x1, .i32⟩
  | .hbm, ⟨15, _⟩ => ⟨S16384x1, .i32⟩
  | .hbm, ⟨16, _⟩ => ⟨S16384x2, .i32⟩
  | .hbm, ⟨17, _⟩ => ⟨S16384x1, .f32⟩
  | .hbm, ⟨18, _⟩ => ⟨S16384x1, .f32⟩
  | .hbm, ⟨19, _⟩ => ⟨S16384x2, .f32⟩
  | .local .tc .vmem, ⟨0, _⟩ => ⟨S1024x2048, .f32⟩
  | .local .tc .vmem, ⟨1, _⟩ => ⟨S1024x2048, .f32⟩
  | .local .tc .vmem, ⟨2, _⟩ => ⟨S16x2048, .f32⟩
  | .local .tc .vmem, ⟨3, _⟩ => ⟨S16x1, .f32⟩
  | .local .tc .vmem, ⟨4, _⟩ => ⟨S2x8x8x128, .f32⟩
  | .local .tc .vmem, ⟨5, _⟩ => ⟨S2x8x8x128, .f32⟩
  | .local .tc .vmem, ⟨6, _⟩ => ⟨S32x16, .f32⟩
  | .local .tc .vmem, ⟨7, _⟩ => ⟨S32x16, .f32⟩
  | .local .tc .smem, ⟨0, _⟩ => ⟨S1x1, .f32⟩
  | .local .scVector .vmem, ⟨0, _⟩ => ⟨S8192, .f32⟩
  | .local .scVector .vmem, ⟨1, _⟩ => ⟨S512, .i32⟩
  | .local .scVector .vmem, ⟨2, _⟩ => ⟨S512, .i32⟩
  | .local .scVector .vmem, ⟨3, _⟩ => ⟨S512, .f32⟩
  | .local .scVector .vmem, ⟨4, _⟩ => ⟨S512, .f32⟩
  | .local .scVector .vmem, ⟨5, _⟩ => ⟨S256, .f32⟩
  | .local .scVector .vmem, ⟨6, _⟩ => ⟨S256, .f32⟩
  | .local .scVector .vmem, ⟨7, _⟩ => ⟨S16, .f32⟩
  | .local .scVector .vmem, ⟨8, _⟩ => ⟨S16, .f32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev main_v3_2_scv : Ref sig .scVector := ⟨.hbm, 8, rfl⟩
abbrev main_v3_3_scv : Ref sig .scVector := ⟨.hbm, 9, rfl⟩
abbrev main_v3_4_scv : Ref sig .scVector := ⟨.hbm, 10, rfl⟩
abbrev main_v3_5_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 9
abbrev cc2_sem1_0 : DmaSem sig := 10
abbrev cc2_sem2_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32_0 : BitVec 32) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c1024_i32 : BitVec 32 := 1024#32
  let v5 : BitVec 32 := Scalar.muli v4 c1024_i32
  let v6 : BitVec 32 := Scalar.addi c0_i32_0 v5
  ![v6.toNat]
@[reducible] def k1_t1_loop : Scf.Loop 32 :=
  let c0_i32_51 : BitVec 32 := 0#32
  let c32_i32 : BitVec 32 := 32#32
  let v127 : BitVec 32 := Scalar.addi c0_i32_51 c32_i32
  let c1_i32_52 : BitVec 32 := 1#32
  ⟨c0_i32_51, v127, c1_i32_52⟩
def k1_off2 (k1_t1 : Fin k1_t1_loop.trips) (c0_i32_111 : BitVec 32) (c0_i32_112 : BitVec 32) : Fin 1 → Nat :=
  let c0_i32_51 : BitVec 32 := 0#32
  let c1_i32_52 : BitVec 32 := 1#32
  let arg21 : BitVec 32 := Scf.iv c0_i32_51 c1_i32_52 k1_t1
  let c0_i32_97 : BitVec 32 := 0#32
  let v1514 : BitVec 1 := Scalar.cmpi .sgt arg21 c0_i32_97
  let v1515 : BitVec 32 := Scalar.extui v1514
  let c0_i32_98 : BitVec 32 := 0#32
  let v1516 : BitVec 1 := Scalar.cmpi .slt arg21 c0_i32_98
  let v1517 : BitVec 32 := Scalar.extui v1516
  let v1518 : BitVec 32 := Scalar.subi v1515 v1517
  let c8_i32_96 : BitVec 32 := 8#32
  let c0_i32_99 : BitVec 32 := 0#32
  let v1519 : BitVec 1 := Scalar.cmpi .sgt c8_i32_96 c0_i32_99
  let v1520 : BitVec 32 := Scalar.extui v1519
  let c0_i32_100 : BitVec 32 := 0#32
  let v1521 : BitVec 1 := Scalar.cmpi .slt c8_i32_96 c0_i32_100
  let v1522 : BitVec 32 := Scalar.extui v1521
  let v1523 : BitVec 32 := Scalar.subi v1520 v1522
  let v1524 : BitVec 1 := Scalar.cmpi .ne v1518 v1523
  let v1525 : BitVec 32 := Scalar.remsi arg21 c8_i32_96
  let c0_i32_101 : BitVec 32 := 0#32
  let v1526 : BitVec 1 := Scalar.cmpi .ne v1525 c0_i32_101
  let v1527 : BitVec 1 := Scalar.andi v1524 v1526
  let v1513 : BitVec 32 := Scalar.divsi arg21 c8_i32_96
  let c1_i32_102 : BitVec 32 := 1#32
  let v1528 : BitVec 32 := Scalar.subi v1513 c1_i32_102
  let v1529 : BitVec 32 := Scalar.select v1527 v1528 v1513
  let c1024_i32_103 : BitVec 32 := 1024#32
  let v1530 : BitVec 32 := Scalar.muli v1529 c1024_i32_103
  let c8_i32_104 : BitVec 32 := 8#32
  let c0_i32_105 : BitVec 32 := 0#32
  let v1531 : BitVec 1 := Scalar.cmpi .eq c8_i32_104 c0_i32_105
  let c1_i32_106 : BitVec 32 := 1#32
  let v1532 : BitVec 32 := Scalar.select v1531 c1_i32_106 c8_i32_104
  let v1533 : BitVec 32 := Scalar.remsi arg21 v1532
  let c0_i32_108 : BitVec 32 := 0#32
  let v1535 : BitVec 1 := Scalar.cmpi .slt v1533 c0_i32_108
  let c0_i32_109 : BitVec 32 := 0#32
  let v1536 : BitVec 1 := Scalar.cmpi .slt v1532 c0_i32_109
  let v1537 : BitVec 1 := Scalar.xori v1535 v1536
  let c0_i32_107 : BitVec 32 := 0#32
  let v1534 : BitVec 1 := Scalar.cmpi .ne v1533 c0_i32_107
  let v1538 : BitVec 1 := Scalar.andi v1537 v1534
  let v1539 : BitVec 32 := Scalar.addi v1533 v1532
  let v1540 : BitVec 32 := Scalar.select v1538 v1539 v1533
  let c16_i32_110 : BitVec 32 := 16#32
  let v1541 : BitVec 32 := Scalar.muli v1540 c16_i32_110
  let v1542 : BitVec 32 := Scalar.addi v1530 v1541
  let v1543 : BitVec 32 := Scalar.addi v1542 c0_i32_111
  let v1544 : BitVec 32 := Scalar.addi v1543 c0_i32_112
  let v1545 : Index := Scalar.indexCast v1544
  ![v1545.toNat]
def k1_off3 (k1_t1 : Fin k1_t1_loop.trips) : Fin 1 → Nat :=
  let c0_i32_51 : BitVec 32 := 0#32
  let c1_i32_52 : BitVec 32 := 1#32
  let arg21 : BitVec 32 := Scf.iv c0_i32_51 c1_i32_52 k1_t1
  let c16_i32_205 : BitVec 32 := 16#32
  let v1942 : BitVec 32 := Scalar.muli arg21 c16_i32_205
  let v1943 : Index := Scalar.indexCast v1942
  ![v1943.toNat]

def k1_chk1 (v1476 : IVec S16 32) : Prop :=
  (∀ a x, ((![v1476] : Fin 1 → IVec S16 32) a x).toNat < S256.size a) ∧
  (∀ a x, ((![v1476] : Fin 1 → IVec S16 32) a x).toNat < S256.size a)
theorem k1_idx1_inb : ∀ (v1476 : IVec S16 32) (k1_hw1 : k1_chk1 v1476), ∀ a x, ((![v1476] : Fin 1 → IVec S16 32) a x).toNat < S256.size a := fun v1476 k1_hw1 => k1_hw1.1
theorem k1_idx2_inb : ∀ (v1476 : IVec S16 32) (k1_hw1 : k1_chk1 v1476), ∀ a x, ((![v1476] : Fin 1 → IVec S16 32) a x).toNat < S256.size a := fun v1476 k1_hw1 => k1_hw1.2
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_88 : BitVec 32 := 0#32
  ![v1.toNat, 0]
abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S16x2048 : Shape := ⟨2, ![16, 2048]⟩
abbrev S16 : Shape := ⟨1, ![16]⟩
abbrev S2048x16 : Shape := ⟨2, ![2048, 16]⟩
abbrev S16384x16 : Shape := ⟨2, ![16384, 16]⟩
abbrev S1x16 : Shape := ⟨2, ![1, 16]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S16, .f32⟩
  | .hbm, ⟨3, _⟩ => ⟨S2048x16, .f32⟩
  | .hbm, ⟨4, _⟩ => ⟨S16384x16, .f32⟩
  | .hbm, ⟨5, _⟩ => ⟨S1x16, .f32⟩
  | .hbm, ⟨6, _⟩ => ⟨S16384x16, .f32⟩
  | .hbm, ⟨7, _⟩ => ⟨S16384x16, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x16, .f32⟩
  | .hbm, ⟨21, _⟩ => ⟨S16384x16, .f32⟩
  | .hbm, ⟨22, _⟩ => ⟨S16384x2, .f32⟩
  | .hbm, ⟨23, _⟩ => ⟨S16384x2, .i32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16384x1, .i32⟩
  | .hbm, ⟨30, _⟩ => ⟨S16384, .i32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x2, .f32⟩
  | .hbm, ⟨35, _⟩ => ⟨S16384x2, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16384, .f32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.Setup.lean ====
/-
  The set-up shared by the modules about the SparseCore call of `KernelIdeal`: the program as the launch theorem sees it,
  the resource algebra, the memory references of the call, and the pieces of the arrays that one vector subcore gets.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UPp : Type := URounds (GSem nD τ sig) Unit
abbrev UU : Type := UH × (UPp × Counters)

/-- The logic's resource type of this launch. -/
abbrev MM (F : FTy → Type) : Type := MT nD τ sig (HIx 1) (Elt F) ℕ UU ℕ

abbrev EH : Emb UH (MM F) := embL

/-! ## The memory references of the SparseCore call -/

abbrev lgH : Memref sig .scVector .hbm S262144 .f32 := Memref.whole main_v2_scv
abbrev o1H : Memref sig .scVector .hbm S16384 .i32 := Memref.whole main_v3_0_scv
abbrev o2H : Memref sig .scVector .hbm S16384 .i32 := Memref.whole main_v3_1_scv
abbrev w1H : Memref sig .scVector .hbm S16384 .f32 := Memref.whole main_v3_2_scv
abbrev w2H : Memref sig .scVector .hbm S16384 .f32 := Memref.whole main_v3_3_scv
abbrev ipH : Memref sig .scVector .hbm S32x16 .f32 := Memref.whole main_v3_4_scv
abbrev ldH : Memref sig .scVector .hbm S32x16 .f32 := Memref.whole main_v3_5_scv
abbrev lgV : Memref sig .scVector .vmem S8192 .f32 := Memref.whole cc1_scratch0
abbrev o1V : Memref sig .scVector .vmem S512 .i32 := Memref.whole cc1_scratch1
abbrev o2V : Memref sig .scVector .vmem S512 .i32 := Memref.whole cc1_scratch2
abbrev w1V : Memref sig .scVector .vmem S512 .f32 := Memref.whole cc1_scratch3
abbrev w2V : Memref sig .scVector .vmem S512 .f32 := Memref.whole cc1_scratch4
abbrev icV : Memref sig .scVector .vmem S256 .f32 := Memref.whole cc1_scratch5
abbrev lcV : Memref sig .scVector .vmem S256 .f32 := Memref.whole cc1_scratch6
abbrev itV : Memref sig .scVector .vmem S16 .f32 := Memref.whole cc1_scratch7
abbrev ltV : Memref sig .scVector .vmem S16 .f32 := Memref.whole cc1_scratch8

abbrev cV (L : grid1.Coords) : Fin τ.nSC := (L 0).castLE hcore1
abbrev jV (L : grid1.Coords) : Fin τ.nSub := (L 1).castLE hsub1

/-- The thread of the vector subcore at coordinates `L` of device `d`. -/
abbrev thr (d : Dev nD) (L : grid1.Coords) : Thread nD τ := V d (cV L) (jV L)

/-- The chunk of 1024 logits at the offset of `(a, b)`, one of those that the subcore at `L` copies in. -/
abbrev inWb (L : grid1.Coords) (a b : BitVec 32) (h : ∀ q, (k1_off1 L a b) q + S1024.size q ≤ S262144.size q) :
    Memref sig .scVector .hbm S1024 .f32 := lgH.slice (Rect.unit (s := S262144) (k1_off1 L a b) S1024.size h) (fun _ => rfl)
abbrev inW0 (L : grid1.Coords) := inWb L 0#32 0#32 (k1_off1_inb L 0 0)
abbrev inW1 (L : grid1.Coords) := inWb L 0#32 1#32 (k1_off1_inb L 0 1)
abbrev inW2 (L : grid1.Coords) := inWb L 0#32 2#32 (k1_off1_inb L 0 2)
abbrev inW3 (L : grid1.Coords) := inWb L 0#32 3#32 (k1_off1_inb L 0 3)
abbrev inW4 (L : grid1.Coords) := inWb L 131072#32 0#32 (k1_off1_inb L 1 0)
abbrev inW5 (L : grid1.Coords) := inWb L 131072#32 1#32 (k1_off1_inb L 1 1)
abbrev inW6 (L : grid1.Coords) := inWb L 131072#32 2#32 (k1_off1_inb L 1 2)
abbrev inW7 (L : grid1.Coords) := inWb L 131072#32 3#32 (k1_off1_inb L 1 3)

/-- The rectangle of 512 tokens that the subcore at `L` writes out. -/
abbrev outRect (L : grid1.Coords) : Rect S16384 := Rect.unit (s := S16384) (k1_off4 L) S512.size (k1_off4_inb L)
abbrev o1W (L : grid1.Coords) : Memref sig .scVector .hbm S512 .i32 := o1H.slice (outRect L) (fun _ => rfl)
abbrev o2W (L : grid1.Coords) : Memref sig .scVector .hbm S512 .i32 := o2H.slice (outRect L) (fun _ => rfl)
abbrev w1W (L : grid1.Coords) : Memref sig .scVector .hbm S512 .f32 := w1H.slice (outRect L) (fun _ => rfl)
abbrev w2W (L : grid1.Coords) : Memref sig .scVector .hbm S512 .f32 := w2H.slice (outRect L) (fun _ => rfl)

/-- The row of the partial sums that the subcore at `L` writes out. -/
abbrev rowRect (L : grid1.Coords) : Rect S32x16 := Rect.unit (s := S32x16) (k1_off5 L) S1x16.size (k1_off5_inb L)
abbrev ipW (L : grid1.Coords) : Memref sig .scVector .hbm S16 .f32 := (ipH.slice (rowRect L) (fun _ => rfl)).squeeze S16 squeezes_S1x16_S16
abbrev ldW (L : grid1.Coords) : Memref sig .scVector .hbm S16 .f32 := (ldH.slice (rowRect L) (fun _ => rfl)).squeeze S16 squeezes_S1x16_S16

end Cert.Proof

end
-- ==== Proof.TileSpec.lean ====
/-
  What one vector subcore computes, on vectors of 16 lanes and for any float values: from the logits, trip by trip of the
  kernel's loop, the two greatest of sixteen exponentials with their indices, the two weights, the running sums of the
  probabilities and of the one-hot choices, and after the loop the last lanes of the cumulative sums.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev FV (F : FTy → Type) : Type := FVec F S16 .f32
abbrev IV : Type := IVec S16 32

/-- The lanes of expert `e`'s logits that trip `k` of worker `w`'s loop reads from the flat logits `X`. -/
def vx (X : ℕ → F .f32) (w k e : ℕ) : FV F := fun q =>
  X (131072 * (e / 8 % 2) + 4096 * w + 1024 * (k / 8) + 128 * (e % 8) + 16 * (k % 8) + (q 0).val)

/-- The greatest of the vectors `0 … n`. -/
def mxs (v : ℕ → FV F) : ℕ → FV F
  | 0 => v 0
  | n + 1 => maximumf (mxs v n) (v (n + 1))

/-- The exponential of expert `e`'s logits less the greatest. -/
def esv (v : ℕ → FV F) (e : ℕ) : FV F := exp (subf (v e) (mxs v 15))

/-- The sum of the vectors `0 … n`, from the left. -/
def sums (f : ℕ → FV F) : ℕ → FV F
  | 0 => f 0
  | n + 1 => addf (sums f n) (f (n + 1))

/-- The reciprocal of the sum of the exponentials. -/
def invs (v : ℕ → FV F) : FV F := divf (broadcast S16 (Scalar.ofBits .f32 0x3F800000#32)) (sums (esv v) 15)

/-- The two greatest values met and their indices. -/
structure Top (F : FTy → Type) where
  m1 : FV F
  m2 : FV F
  i1 : IV
  i2 : IV

/-- The two greatest of the vectors `0 … n`, a later one taking the place of an earlier only if it is greater. -/
def tour (x : ℕ → FV F) : ℕ → Top F
  | 0 => ⟨x 0, broadcast S16 (Scalar.ofBits .f32 0xBF800000#32), broadcast S16 0#32, broadcast S16 0#32⟩
  | n + 1 =>
    ⟨select (cmpf .ogt (x (n + 1)) (tour x n).m1) (x (n + 1)) (tour x n).m1,
     select (cmpf .ogt (x (n + 1)) (tour x n).m1) (tour x n).m1 (select (cmpf .ogt (x (n + 1)) (tour x n).m2) (x (n + 1)) (tour x n).m2),
     select (cmpf .ogt (x (n + 1)) (tour x n).m1) (broadcast S16 (BitVec.ofNat 32 (n + 1))) (tour x n).i1,
     select (cmpf .ogt (x (n + 1)) (tour x n).m1) (tour x n).i1 (select (cmpf .ogt (x (n + 1)) (tour x n).m2) (broadcast S16 (BitVec.ofNat 32 (n + 1))) (tour x n).i2)⟩

/-- The two greatest of a trip's sixteen exponentials. -/
def topv (v : ℕ → FV F) : Top F := tour (esv v) 15

/-- The reciprocal of the sum of the two greatest. -/
def rcp (v : ℕ → FV F) : FV F := divf (broadcast S16 (Scalar.ofBits .f32 0x3F800000#32)) (addf (topv v).m1 (topv v).m2)

def i1v (v : ℕ → FV F) : IV := (topv v).i1
def i2v (v : ℕ → FV F) : IV := (topv v).i2
def w1v (v : ℕ → FV F) : FV F := mulf (topv v).m1 (rcp v)
def w2v (v : ℕ → FV F) : FV F := mulf (topv v).m2 (rcp v)

/-- One where the index is `e`, else zero. -/
def hotOf (i : IV) (e : ℕ) : FV F :=
  select (cmpi .eq i (broadcast S16 (BitVec.ofNat 32 e))) (broadcast S16 (Scalar.ofBits .f32 0x3F800000#32))
    (broadcast S16 (Scalar.ofBits .f32 0x00000000#32))

/-- One where the greatest is expert `e`'s, else zero. -/
def hot (v : ℕ → FV F) (e : ℕ) : FV F := hotOf (i1v v) e

/-- The running sums of expert `e`'s probabilities before trip `k`. -/
def accI (vs : ℕ → ℕ → FV F) : ℕ → ℕ → FV F
  | 0, _ => broadcast S16 (Scalar.ofBits .f32 0x00000000#32)
  | k + 1, e => addf (accI vs k e) (mulf (esv (vs k) e) (invs (vs k)))

/-- The running counts of expert `e`'s choices before trip `k`. -/
def accL (vs : ℕ → ℕ → FV F) : ℕ → ℕ → FV F
  | 0, _ => broadcast S16 (Scalar.ofBits .f32 0x00000000#32)
  | k + 1, e => addf (accL vs k e) (hot (vs k) e)

/-- The 32 values the loop carries into trip `k`. -/
def carry (vs : ℕ → ℕ → FV F) (k : ℕ) : FV F × FV F × FV F × FV F × FV F × FV F × FV F × FV F × FV F × FV F × FV F × FV F × FV F × FV F × FV F × FV F × FV F × FV F × FV F × FV F × FV F × FV F × FV F × FV F × FV F × FV F × FV F × FV F × FV F × FV F × FV F × FV F :=
  (accI vs k 0, accI vs k 1, accI vs k 2, accI vs k 3, accI vs k 4, accI vs k 5, accI vs k 6, accI vs k 7, accI vs k 8, accI vs k 9, accI vs k 10, accI vs k 11, accI vs k 12, accI vs k 13, accI vs k 14, accI vs k 15, accL vs k 0, accL vs k 1, accL vs k 2, accL vs k 3, accL vs k 4, accL vs k 5, accL vs k 6, accL vs k 7, accL vs k 8, accL vs k 9, accL vs k 10, accL vs k 11, accL vs k 12, accL vs k 13, accL vs k 14, accL vs k 15)

/-- The lanes' numbers. -/
def lanes : IV := iota .scVector S16 32 [0] iota_S16_d0_w32_scVector

/-- The index of lane `j`. -/
def ix (j : Fin 16) : S16.Idx
  | 0 => j

theorem laneSlices : ∀ j : Fin 16, S16.Slices ![j.val] S1 := by decide

/-- Lane `j` of a vector in every lane. -/
def lane (x : FV F) (j : Fin 16) : FV F :=
  broadcast S16 (extractAt ![0] (extractStridedSlice S1 ![j.val] x (laneSlices j)) inpos_S1_p0)

theorem lane_apply (x : FV F) (j : Fin 16) (q : S16.Idx) : lane x j q = x (ix j) := by
  show x _ = x _
  congr 1
  funext a
  obtain rfl : a = 0 := Subsingleton.elim _ _
  rfl

/-- The sum of the lanes `0 … n`, lane `j` counted in the lanes from `j` on. -/
def csum (x : FV F) : ℕ → FV F
  | 0 => lane x 0
  | n + 1 => addf (csum x n) (select (cmpi .sge lanes (broadcast S16 (BitVec.ofNat 32 (n + 1)))) (lane x (Fin.ofNat 16 (n + 1)))
      (broadcast S16 (Scalar.ofBits .f32 0x00000000#32)))

/-- The cumulative sum of the counts, taken on integers. -/
def csumI (x : FV F) : FV F := sitofp .f32 (scan .sum (fptosi 32 x))

end Cert.Proof

end
-- ==== Proof.TileMem.lean ====
/-
  The buffers of one vector subcore as functions: what the copies in leave in its logits buffer, which lanes the loop
  loads from it, and the arrays that all subcores together write.
-/
module

public import proofs.«01_k».proof.Proof.TileSpec

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The worker's number of the subcore at `L`. -/
abbrev wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-- The flat array read at a natural number. -/
def fl (X : S262144.Idx → F .f32) (n : ℕ) : F .f32 :=
  X fun a => ⟨n % S262144.size a, Nat.mod_lt _ (by obtain rfl : a = 0 := Subsingleton.elim _ _; decide)⟩

theorem fl_apply (X : S262144.Idx → F .f32) (y : S262144.Idx) (n : ℕ) (h : (y 0).val = n) : fl X n = X y := by
  unfold fl
  congr 1
  funext a
  obtain rfl : a = 0 := Subsingleton.elim _ _
  apply Fin.ext
  show n % 262144 = (y 0).val
  have : (y 0).val < 262144 := (y 0).isLt
  omega

/-- The logits buffer of worker `w` after the copies in. -/
def lgOf (w : ℕ) (X : ℕ → F .f32) : S8192.Idx → F .f32 := fun p =>
  X (131072 * ((p 0).val / 4096) + 4096 * w + (p 0).val % 4096)

/-- One copy in agrees with the buffer it fills. -/
theorem lg_piece (L : grid1.Coords) (a : Fin 2) (b : Fin 4) (n : ℕ) (hn : n = 4096 * a.val + 1024 * b.val)
    (inb : ∀ q, ![n] q + S1024.size q ≤ S8192.size q)
    (X : S262144.Idx → F .f32) (x : S1024.Idx) :
    ((inWb L (BitVec.ofNat 32 (131072 * a)) (BitVec.ofNat 32 b) (k1_off1_inb L a b)).view.read (Elt F) X) x
      = lgOf (wid L) (fl X) ((Rect.unit (s := S8192) ![n] S1024.size inb).emb x) := by
  have hx : (x 0).val < 1024 := (x 0).isLt
  have ha := a.isLt
  have hb := b.isLt
  refine (fl_apply X ((Rect.unit (s := S262144) (k1_off1 L (BitVec.ofNat 32 (131072 * a)) (BitVec.ofNat 32 b)) S1024.size (k1_off1_inb L a b)).emb x) _ ?_).symm
  have e1 : (((Rect.unit (s := S8192) ![n] S1024.size inb).emb x) 0).val = n + 1 * (x 0).val := rfl
  have e2 : (((Rect.unit (s := S262144) (k1_off1 L (BitVec.ofNat 32 (131072 * a)) (BitVec.ofNat 32 b)) S1024.size (k1_off1_inb L a b)).emb x) 0).val
      = (k1_off1 L (BitVec.ofNat 32 (131072 * a)) (BitVec.ofNat 32 b)) 0 + 1 * (x 0).val := rfl
  rw [e1, e2, k1_off1_eq]
  show 131072 * a.val + 8192 * (L 1).val + 4096 * (L 0).val + 1024 * b.val + 1 * (x 0).val = _
  unfold wid
  have q1 : (n + 1 * (x 0).val) / 4096 = a.val := by omega
  have q2 : (n + 1 * (x 0).val) % 4096 = 1024 * b.val + (x 0).val := by omega
  rw [q1, q2]; omega

set_option maxHeartbeats 2000000 in
/-- The copies in leave the logits buffer as `lgOf` says, whatever it held. -/
theorem lg_writes (L : grid1.Coords) (X : S262144.Idx → F .f32) (f0 : S8192.Idx → F .f32)
    (p0 p1 p2 p3 p4 p5 p6 p7 : S1024.Idx → F .f32)
    (h0 : p0 = (inW0 L).view.read (Elt F) X) (b0 : ∀ q, ![0] q + S1024.size q ≤ S8192.size q)
    (h1 : p1 = (inW1 L).view.read (Elt F) X) (b1 : ∀ q, ![1024] q + S1024.size q ≤ S8192.size q)
    (h2 : p2 = (inW2 L).view.read (Elt F) X) (b2 : ∀ q, ![2048] q + S1024.size q ≤ S8192.size q)
    (h3 : p3 = (inW3 L).view.read (Elt F) X) (b3 : ∀ q, ![3072] q + S1024.size q ≤ S8192.size q)
    (h4 : p4 = (inW4 L).view.read (Elt F) X) (b4 : ∀ q, ![4096] q + S1024.size q ≤ S8192.size q)
    (h5 : p5 = (inW5 L).view.read (Elt F) X) (b5 : ∀ q, ![5120] q + S1024.size q ≤ S8192.size q)
    (h6 : p6 = (inW6 L).view.read (Elt F) X) (b6 : ∀ q, ![6144] q + S1024.size q ≤ S8192.size q)
    (h7 : p7 = (inW7 L).view.read (Elt F) X) (b7 : ∀ q, ![7168] q + S1024.size q ≤ S8192.size q)
    : lgV.view.writes (Elt F) f0 [⟨Rect.unit ![7168] S1024.size b7, p7⟩, ⟨Rect.unit ![6144] S1024.size b6, p6⟩, ⟨Rect.unit ![5120] S1024.size b5, p5⟩, ⟨Rect.unit ![4096] S1024.size b4, p4⟩, ⟨Rect.unit ![3072] S1024.size b3, p3⟩, ⟨Rect.unit ![2048] S1024.size b2, p2⟩, ⟨Rect.unit ![1024] S1024.size b1, p1⟩, ⟨Rect.unit ![0] S1024.size b0, p0⟩]
      = lgOf (wid L) (fl X) := by
  funext y
  change View.read (Elt F) lgV.view (lgV.view.writes (Elt F) f0 [⟨Rect.unit ![7168] S1024.size b7, p7⟩, ⟨Rect.unit ![6144] S1024.size b6, p6⟩, ⟨Rect.unit ![5120] S1024.size b5, p5⟩, ⟨Rect.unit ![4096] S1024.size b4, p4⟩, ⟨Rect.unit ![3072] S1024.size b3, p3⟩, ⟨Rect.unit ![2048] S1024.size b2, p2⟩, ⟨Rect.unit ![1024] S1024.size b1, p1⟩, ⟨Rect.unit ![0] S1024.size b0, p0⟩]) y = _
  refine View.read_writes_apply_of_pieces (Val := Elt F) (v := lgV.view) (f := f0) (G := (lgOf (wid L) (fl X) : S8192.Idx → Elt F .f32)) _ ?_ y ?_
  · simp only [List.forall_mem_cons]
    refine ⟨fun x => (congrFun h7 x).trans (lg_piece L 1 3 _ (by decide) b7 X x), fun x => (congrFun h6 x).trans (lg_piece L 1 2 _ (by decide) b6 X x), fun x => (congrFun h5 x).trans (lg_piece L 1 1 _ (by decide) b5 X x), fun x => (congrFun h4 x).trans (lg_piece L 1 0 _ (by decide) b4 X x), fun x => (congrFun h3 x).trans (lg_piece L 0 3 _ (by decide) b3 X x), fun x => (congrFun h2 x).trans (lg_piece L 0 2 _ (by decide) b2 X x), fun x => (congrFun h1 x).trans (lg_piece L 0 1 _ (by decide) b1 X x), fun x => (congrFun h0 x).trans (lg_piece L 0 0 _ (by decide) b0 X x), fun p hp => absurd hp List.not_mem_nil⟩
  · have hy : (y 0).val < 8192 := (y 0).isLt
    simp only [List.exists_mem_cons_iff, Rect.mem_set_unit]
    have key : ∀ n, (∀ a : Fin 1, ![n] a ≤ (y a).val ∧ (y a).val < ![n] a + S1024.size a) ↔ (n ≤ (y 0).val ∧ (y 0).val < n + 1024) := fun n =>
      ⟨fun h => h 0, fun h a => by obtain rfl : a = 0 := Subsingleton.elim _ _; exact h⟩
    by_cases c7 : 7168 ≤ (y 0).val
    · exact .inl ((key _).mpr (by omega))
    by_cases c6 : 6144 ≤ (y 0).val
    · exact .inr (.inl ((key _).mpr (by omega)))
    by_cases c5 : 5120 ≤ (y 0).val
    · exact .inr (.inr (.inl ((key _).mpr (by omega))))
    by_cases c4 : 4096 ≤ (y 0).val
    · exact .inr (.inr (.inr (.inl ((key _).mpr (by omega)))))
    by_cases c3 : 3072 ≤ (y 0).val
    · exact .inr (.inr (.inr (.inr (.inl ((key _).mpr (by omega))))))
    by_cases c2 : 2048 ≤ (y 0).val
    · exact .inr (.inr (.inr (.inr (.inr (.inl ((key _).mpr (by omega)))))))
    by_cases c1 : 1024 ≤ (y 0).val
    · exact .inr (.inr (.inr (.inr (.inr (.inr (.inl ((key _).mpr (by omega))))))))
    exact .inr (.inr (.inr (.inr (.inr (.inr (.inr (.inl ((key _).mpr (by omega)))))))))

theorem k1_off2_eq : ∀ (k : Fin k1_t1_loop.trips) (a : Fin 2) (b : Fin 8),
    k1_off2 k (BitVec.ofNat 32 (4096 * a)) (BitVec.ofNat 32 (128 * b)) = ![1024 * (k.val / 8) + 16 * (k.val % 8) + 4096 * a.val + 128 * b.val] := by
  decide +kernel

/-- The vector that trip `k` loads of expert `e`'s logits. -/
abbrev vld (k : Fin k1_t1_loop.trips) (Lf : S8192.Idx → F .f32) (e : ℕ) : FV F :=
  View.readAt (Elt F) lgV.view (Rect.unit (s := S8192) (k1_off2 k (BitVec.ofNat 32 (4096 * (e / 8 % 2))) (BitVec.ofNat 32 (128 * (e % 8)))) S16.size
    (k1_off2_inb k ⟨e / 8 % 2, Nat.mod_lt _ (by decide)⟩ ⟨e % 8, Nat.mod_lt _ (by decide)⟩)).toLoadRect Lf

theorem vld_eq (k : Fin k1_t1_loop.trips) (w : ℕ) (X : ℕ → F .f32) : vld k (lgOf w X) = vx X w k.val := by
  funext e q
  have hq : (q 0).val < 16 := (q 0).isLt
  have hk : k.val < 32 := k.isLt
  have h8 : e % 8 < 8 := Nat.mod_lt _ (by decide)
  have h2 : e / 8 % 2 < 2 := Nat.mod_lt _ (by decide)
  have e1 : vld k (lgOf w X) e q = lgOf w X ((Rect.unit (s := S8192) (k1_off2 k (BitVec.ofNat 32 (4096 * (e / 8 % 2))) (BitVec.ofNat 32 (128 * (e % 8)))) S16.size
    (k1_off2_inb k ⟨e / 8 % 2, h2⟩ ⟨e % 8, h8⟩)).emb q) := rfl
  rw [e1]
  unfold lgOf vx
  have e2 : (((Rect.unit (s := S8192) (k1_off2 k (BitVec.ofNat 32 (4096 * (e / 8 % 2))) (BitVec.ofNat 32 (128 * (e % 8)))) S16.size
    (k1_off2_inb k ⟨e / 8 % 2, h2⟩ ⟨e % 8, h8⟩)).emb q) 0).val = (k1_off2 k (BitVec.ofNat 32 (4096 * (e / 8 % 2))) (BitVec.ofNat 32 (128 * (e % 8)))) 0 + 1 * (q 0).val := rfl
  have e3 := congrFun (k1_off2_eq k ⟨e / 8 % 2, h2⟩ ⟨e % 8, h8⟩) 0
  have e4 : (k1_off2 k (BitVec.ofNat 32 (4096 * (e / 8 % 2))) (BitVec.ofNat 32 (128 * (e % 8)))) 0 = 1024 * (k.val / 8) + 16 * (k.val % 8) + 4096 * (e / 8 % 2) + 128 * (e % 8) := e3
  rw [e2, e4]
  congr 1
  have q1 : (1024 * (k.val / 8) + 16 * (k.val % 8) + 4096 * (e / 8 % 2) + 128 * (e % 8) + 1 * (q 0).val) / 4096 = e / 8 % 2 := by omega
  have q2 : (1024 * (k.val / 8) + 16 * (k.val % 8) + 4096 * (e / 8 % 2) + 128 * (e % 8) + 1 * (q 0).val) % 4096 = 1024 * (k.val / 8) + 128 * (e % 8) + 16 * (k.val % 8) + (q 0).val := by omega
  rw [q1, q2]; omega

end Cert.Proof

end
-- ==== Proof.Trip.lean ====
/-
  One trip of the subcore's loop: what it stores and what it carries on, in the words of the specification.
-/
module

public import proofs.«01_k».proof.Proof.TileMem

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

/-- One store of sixteen lanes at trip `k`'s place of a buffer of 512 words. -/
abbrev st16 {e : EltTy} (v : View sig .scVector .vmem S512 e) (f : v.ty.Contents (Elt F)) (k : Fin k1_t1_loop.trips) (x : S16.Idx → Elt F e) : v.ty.Contents (Elt F) :=
  v.writes (Elt F) f [⟨Rect.unit (k1_off3 k) S16.size (k1_off3_inb k), x⟩]

set_option maxHeartbeats 8000000 in
theorem body (d : Dev nD) (L : grid1.Coords) (k : Fin k1_t1_loop.trips) (v92 : IVec S16 32) (v96 v98 : IVec S16 1) (c3 : BitVec 32)
    (Lf : Buf (Elt F) (lgV.view.loc (thr d L)))
    (f1 : Buf (Elt F) (o1V.view.loc (thr d L))) (f2 : Buf (Elt F) (o2V.view.loc (thr d L))) (f3 : Buf (Elt F) (w1V.view.loc (thr d L))) (f4 : Buf (Elt F) (w2V.view.loc (thr d L)))
    (a0 a1 a2 a3 a4 a5 a6 a7 a8 a9 a10 a11 a12 a13 a14 a15 a16 a17 a18 a19 a20 a21 a22 a23 a24 a25 a26 a27 a28 a29 a30 a31 : FVec F S16 .f32) :
    (iprop((lgV.view.loc (thr d L) ↦{fullShare} Lf)
      ∗ (o1V.view.loc (thr d L) ↦{fullShare} f1)
      ∗ (o2V.view.loc (thr d L) ↦{fullShare} f2)
      ∗ (w1V.view.loc (thr d L) ↦{fullShare} f3)
      ∗ (w2V.view.loc (thr d L) ↦{fullShare} f4)) : sProp (MM F))
    ⊢ wp frame (wpE (defs₀ (F := F)) 𝒱₀ (thr d L) none) Set.univ
        (k1_t1_body L lgH (Memref.isWhole_whole _) o1H (Memref.isWhole_whole _) o2H (Memref.isWhole_whole _) w1H (Memref.isWhole_whole _) w2H (Memref.isWhole_whole _) ipH (Memref.isWhole_whole _) ldH (Memref.isWhole_whole _) lgV (Memref.isWhole_whole _) o1V (Memref.isWhole_whole _) o2V (Memref.isWhole_whole _) w1V (Memref.isWhole_whole _) w2V (Memref.isWhole_whole _) icV (Memref.isWhole_whole _) lcV (Memref.isWhole_whole _) itV (Memref.isWhole_whole _) ltV (Memref.isWhole_whole _) cc1_scratch9 cc1_scratch10 cc1_scratch11 v92 v96 v98 c3 k (a0, a1, a2, a3, a4, a5, a6, a7, a8, a9, a10, a11, a12, a13, a14, a15, a16, a17, a18, a19, a20, a21, a22, a23, a24, a25, a26, a27, a28, a29, a30, a31))
        fun r => iprop(⌜r = (addf a0 (mulf (esv (vld k Lf) 0) (invs (vld k Lf))), addf a1 (mulf (esv (vld k Lf) 1) (invs (vld k Lf))), addf a2 (mulf (esv (vld k Lf) 2) (invs (vld k Lf))), addf a3 (mulf (esv (vld k Lf) 3) (invs (vld k Lf))), addf a4 (mulf (esv (vld k Lf) 4) (invs (vld k Lf))), addf a5 (mulf (esv (vld k Lf) 5) (invs (vld k Lf))), addf a6 (mulf (esv (vld k Lf) 6) (invs (vld k Lf))), addf a7 (mulf (esv (vld k Lf) 7) (invs (vld k Lf))), addf a8 (mulf (esv (vld k Lf) 8) (invs (vld k Lf))), addf a9 (mulf (esv (vld k Lf) 9) (invs (vld k Lf))), addf a10 (mulf (esv (vld k Lf) 10) (invs (vld k Lf))), addf a11 (mulf (esv (vld k Lf) 11) (invs (vld k Lf))), addf a12 (mulf (esv (vld k Lf) 12) (invs (vld k Lf))), addf a13 (mulf (esv (vld k Lf) 13) (invs (vld k Lf))), addf a14 (mulf (esv (vld k Lf) 14) (invs (vld k Lf))), addf a15 (mulf (esv (vld k Lf) 15) (invs (vld k Lf))), addf a16 (hot (vld k Lf) 0), addf a17 (hot (vld k Lf) 1), addf a18 (hot (vld k Lf) 2), addf a19 (hot (vld k Lf) 3), addf a20 (hot (vld k Lf) 4), addf a21 (hot (vld k Lf) 5), addf a22 (hot (vld k Lf) 6), addf a23 (hot (vld k Lf) 7), addf a24 (hot (vld k Lf) 8), addf a25 (hot (vld k Lf) 9), addf a26 (hot (vld k Lf) 10), addf a27 (hot (vld k Lf) 11), addf a28 (hot (vld k Lf) 12), addf a29 (hot (vld k Lf) 13), addf a30 (hot (vld k Lf) 14), addf a31 (hot (vld k Lf) 15))⌝
          ∗ (lgV.view.loc (thr d L) ↦{fullShare} Lf)
          ∗ (o1V.view.loc (thr d L) ↦{fullShare} st16 o1V.view f1 k (i1v (vld k Lf)))
          ∗ (o2V.view.loc (thr d L) ↦{fullShare} st16 o2V.view f2 k (i2v (vld k Lf)))
          ∗ (w1V.view.loc (thr d L) ↦{fullShare} st16 w1V.view f3 k (w1v (vld k Lf)))
          ∗ (w2V.view.loc (thr d L) ↦{fullShare} st16 w2V.view f4 k (w2v (vld k Lf)))) := by
  unfold k1_t1_body
  iintro ⟨HL, H1, H2, H3, H4⟩
  sl_exec
  have h1 : body.sl.r_63 d L k Lf = i1v (vld k Lf) := rfl
  have h2 : body.sl.r_62 d L k Lf = i2v (vld k Lf) := rfl
  have h3 : body.sl.r_64 d L k Lf = w1v (vld k Lf) := rfl
  have h4 : body.sl.r_65 d L k Lf = w2v (vld k Lf) := rfl
  sl_step
  isplitr [HL H1 H2 H3 H4]
  · ipureintro
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk rfl ?_
    refine congrArg₂ Prod.mk ?_ ?_
    · exact (show _ = addf a16 (hotOf (body.sl.r_63 d L k Lf) 0) from rfl).trans (congrArg (fun i => addf a16 (hotOf i 0)) h1)
    refine congrArg₂ Prod.mk ?_ ?_
    · exact (show _ = addf a17 (hotOf (body.sl.r_63 d L k Lf) 1) from rfl).trans (congrArg (fun i => addf a17 (hotOf i 1)) h1)
    refine congrArg₂ Prod.mk ?_ ?_
    · exact (show _ = addf a18 (hotOf (body.sl.r_63 d L k Lf) 2) from rfl).trans (congrArg (fun i => addf a18 (hotOf i 2)) h1)
    refine congrArg₂ Prod.mk ?_ ?_
    · exact (show _ = addf a19 (hotOf (body.sl.r_63 d L k Lf) 3) from rfl).trans (congrArg (fun i => addf a19 (hotOf i 3)) h1)
    refine congrArg₂ Prod.mk ?_ ?_
    · exact (show _ = addf a20 (hotOf (body.sl.r_63 d L k Lf) 4) from rfl).trans (congrArg (fun i => addf a20 (hotOf i 4)) h1)
    refine congrArg₂ Prod.mk ?_ ?_
    · exact (show _ = addf a21 (hotOf (body.sl.r_63 d L k Lf) 5) from rfl).trans (congrArg (fun i => addf a21 (hotOf i 5)) h1)
    refine congrArg₂ Prod.mk ?_ ?_
    · exact (show _ = addf a22 (hotOf (body.sl.r_63 d L k Lf) 6) from rfl).trans (congrArg (fun i => addf a22 (hotOf i 6)) h1)
    refine congrArg₂ Prod.mk ?_ ?_
    · exact (show _ = addf a23 (hotOf (body.sl.r_63 d L k Lf) 7) from rfl).trans (congrArg (fun i => addf a23 (hotOf i 7)) h1)
    refine congrArg₂ Prod.mk ?_ ?_
    · exact (show _ = addf a24 (hotOf (body.sl.r_63 d L k Lf) 8) from rfl).trans (congrArg (fun i => addf a24 (hotOf i 8)) h1)
    refine congrArg₂ Prod.mk ?_ ?_
    · exact (show _ = addf a25 (hotOf (body.sl.r_63 d L k Lf) 9) from rfl).trans (congrArg (fun i => addf a25 (hotOf i 9)) h1)
    refine congrArg₂ Prod.mk ?_ ?_
    · exact (show _ = addf a26 (hotOf (body.sl.r_63 d L k Lf) 10) from rfl).trans (congrArg (fun i => addf a26 (hotOf i 10)) h1)
    refine congrArg₂ Prod.mk ?_ ?_
    · exact (show _ = addf a27 (hotOf (body.sl.r_63 d L k Lf) 11) from rfl).trans (congrArg (fun i => addf a27 (hotOf i 11)) h1)
    refine congrArg₂ Prod.mk ?_ ?_
    · exact (show _ = addf a28 (hotOf (body.sl.r_63 d L k Lf) 12) from rfl).trans (congrArg (fun i => addf a28 (hotOf i 12)) h1)
    refine congrArg₂ Prod.mk ?_ ?_
    · exact (show _ = addf a29 (hotOf (body.sl.r_63 d L k Lf) 13) from rfl).trans (congrArg (fun i => addf a29 (hotOf i 13)) h1)
    refine congrArg₂ Prod.mk ?_ ?_
    · exact (show _ = addf a30 (hotOf (body.sl.r_63 d L k Lf) 14) from rfl).trans (congrArg (fun i => addf a30 (hotOf i 14)) h1)
    exact (show _ = addf a31 (hotOf (body.sl.r_63 d L k Lf) 15) from rfl).trans (congrArg (fun i => addf a31 (hotOf i 15)) h1)
  · rw [← h1, ← h2, ← h3, ← h4]
    isplitl [HL]; · iexact HL
    isplitl [H1]; · iexact H1
    isplitl [H2]; · iexact H2
    isplitl [H3]; · iexact H3
    iexact H4

end Cert.Proof

end
-- ==== Proof.Loop.lean ====
/-
  The loop of one vector subcore over its 512 tokens, and the arrays all subcores together write.
-/
module

public import Idealize.ShloMosaic.Lib.WritesUnit
public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

theorem chk : k1_chk1 (k1_pay242 (iota .scVector S16 32 [0] iota_S16_d0_w32_scVector)) := by
  have h : ∀ x : S16.Idx, (k1_pay242 (iota .scVector S16 32 [0] iota_S16_d0_w32_scVector) x).toNat < 256 := by decide +kernel
  refine ⟨fun a x => ?_, fun a x => ?_⟩ <;> (obtain rfl : a = 0 := Subsingleton.elim _ _; exact h x)

/-- A buffer of 512 words made of 32 vectors. -/
def rows {α : Type} (g : ℕ → S16.Idx → α) : S512.Idx → α := fun p => g ((p 0).val / 16) (ix (Fin.ofNat 16 (p 0).val))

/-- The first `k` vectors are in place. -/
def upTo {α : Type} (g : ℕ → S16.Idx → α) (k : ℕ) (f : S512.Idx → α) : Prop := ∀ p : S512.Idx, (p 0).val < 16 * k → f p = rows g p

theorem upTo_zero {α : Type} (g : ℕ → S16.Idx → α) (f : S512.Idx → α) : upTo g 0 f := fun p h => absurd h (by omega)

theorem upTo_all {α : Type} (g : ℕ → S16.Idx → α) (f : S512.Idx → α) (h : upTo g 32 f) : f = rows g :=
  funext fun p => h p (show (p 0).val < 16 * 32 from (p 0).isLt)

theorem ix_zero (q : S16.Idx) : ix (q 0) = q := funext fun a => by obtain rfl : a = 0 := Subsingleton.elim _ _; rfl

/-- The next store puts the next vector in place. -/
theorem upTo_succ {e : EltTy} (v : View sig .scVector .vmem S512 e) (f : v.ty.Contents (Elt F)) (k : Fin k1_t1_loop.trips)
    (g : ℕ → S16.Idx → Elt F e) (h : upTo g k.val (v.read (Elt F) f)) : upTo g (k.val + 1) (v.read (Elt F) (st16 v f k (g k.val))) := by
  intro p hp
  have ho : k1_off3 k = ![16 * k.val] := k1_off3_eq k
  by_cases hlt : (p 0).val < 16 * k.val
  · rw [View.read_writes_cons_unit_of_not_mem v f _ _ [] p ho 0 (.inl hlt)]
    exact h p hlt
  · have hx : (p 0).val - 16 * k.val < 16 := by omega
    have hd : (p 0).val / 16 = k.val := by omega
    have hm : (Fin.ofNat 16 (p 0).val) = ⟨(p 0).val - 16 * k.val, hx⟩ := Fin.ext (show (p 0).val % 16 = (p 0).val - 16 * k.val by omega)
    refine (View.read_writes_cons_unit_of_mem v f (k1_off3_inb k) (g k.val) [] p (ix ⟨(p 0).val - 16 * k.val, hx⟩) ho
      (fun a => by obtain rfl : a = 0 := Subsingleton.elim _ _; show (p 0).val = 16 * k.val + ((p 0).val - 16 * k.val); omega)).trans ?_
    unfold rows
    rw [hd, hm]

/-- What holds before trip `k` of the loop of worker `w` on the flat logits `X`. -/
def inv (d : Dev nD) (L : grid1.Coords) (w : ℕ) (X : ℕ → F .f32) (k : ℕ) (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp (MM F) :=
  iprop(⌜acc = carry (vx X w) k⌝
      ∗ (lgV.view.loc (thr d L) ↦{fullShare} lgOf w X)
      ∗ (∃ f : S512.Idx → BitVec 32, ⌜upTo (fun k => i1v (vx X w k)) k f⌝ ∗ (o1V.view.loc (thr d L) ↦{fullShare} f))
      ∗ (∃ f : S512.Idx → BitVec 32, ⌜upTo (fun k => i2v (vx X w k)) k f⌝ ∗ (o2V.view.loc (thr d L) ↦{fullShare} f))
      ∗ (∃ f : S512.Idx → F .f32, ⌜upTo (fun k => w1v (vx X w k)) k f⌝ ∗ (w1V.view.loc (thr d L) ↦{fullShare} f))
      ∗ (∃ f : S512.Idx → F .f32, ⌜upTo (fun k => w2v (vx X w k)) k f⌝ ∗ (w2V.view.loc (thr d L) ↦{fullShare} f)))

/-- One trip keeps the invariant. -/
theorem trip (d : Dev nD) (L : grid1.Coords) (w : ℕ) (X : ℕ → F .f32) (k : Fin k1_t1_loop.trips) (v92 : IVec S16 32) (v96 v98 : IVec S16 1) (c3 : BitVec 32)
    (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) :
    inv d L w X k.val acc
    ⊢ wp frame (wpE (defs₀ (F := F)) 𝒱₀ (thr d L) none) Set.univ
        (k1_t1_body L lgH (Memref.isWhole_whole _) o1H (Memref.isWhole_whole _) o2H (Memref.isWhole_whole _) w1H (Memref.isWhole_whole _) w2H (Memref.isWhole_whole _) ipH (Memref.isWhole_whole _) ldH (Memref.isWhole_whole _) lgV (Memref.isWhole_whole _) o1V (Memref.isWhole_whole _) o2V (Memref.isWhole_whole _) w1V (Memref.isWhole_whole _) w2V (Memref.isWhole_whole _) icV (Memref.isWhole_whole _) lcV (Memref.isWhole_whole _) itV (Memref.isWhole_whole _) ltV (Memref.isWhole_whole _) cc1_scratch9 cc1_scratch10 cc1_scratch11 v92 v96 v98 c3 k acc) fun r => inv d L w X (k.val + 1) r := by
  unfold inv
  iintro ⟨%ha, HL, ⟨%f1, %h1, H1⟩, ⟨%f2, %h2, H2⟩, ⟨%f3, %h3, H3⟩, ⟨%f4, %h4, H4⟩⟩
  subst ha
  iapply (wp_mono ?hQ) $$ [HL H1 H2 H3 H4]
  rotate_left
  · iapply (body d L k v92 v96 v98 c3 (lgOf w X) f1 f2 f3 f4 (accI (vx X w) k.val 0) (accI (vx X w) k.val 1) (accI (vx X w) k.val 2) (accI (vx X w) k.val 3) (accI (vx X w) k.val 4) (accI (vx X w) k.val 5) (accI (vx X w) k.val 6) (accI (vx X w) k.val 7) (accI (vx X w) k.val 8) (accI (vx X w) k.val 9) (accI (vx X w) k.val 10) (accI (vx X w) k.val 11) (accI (vx X w) k.val 12) (accI (vx X w) k.val 13) (accI (vx X w) k.val 14) (accI (vx X w) k.val 15) (accL (vx X w) k.val 0) (accL (vx X w) k.val 1) (accL (vx X w) k.val 2) (accL (vx X w) k.val 3) (accL (vx X w) k.val 4) (accL (vx X w) k.val 5) (accL (vx X w) k.val 6) (accL (vx X w) k.val 7) (accL (vx X w) k.val 8) (accL (vx X w) k.val 9) (accL (vx X w) k.val 10) (accL (vx X w) k.val 11) (accL (vx X w) k.val 12) (accL (vx X w) k.val 13) (accL (vx X w) k.val 14) (accL (vx X w) k.val 15))
    isplitl [HL]; · iexact HL
    isplitl [H1]; · iexact H1
    isplitl [H2]; · iexact H2
    isplitl [H3]; · iexact H3
    iexact H4
  case hQ =>
    intro r
    rw [vld_eq]
    iintro ⟨%hr, HL, H1, H2, H3, H4⟩
    isplitr; · ipureintro; exact hr
    isplitl [HL]; · iexact HL
    isplitl [H1]; · iexists _; isplitr; swap; (· iexact H1); ipureintro; exact upTo_succ (F := F) o1V.view f1 k (fun k => i1v (vx X w k)) h1
    isplitl [H2]; · iexists _; isplitr; swap; (· iexact H2); ipureintro; exact upTo_succ (F := F) o2V.view f2 k (fun k => i2v (vx X w k)) h2
    isplitl [H3]; · iexists _; isplitr; swap; (· iexact H3); ipureintro; exact upTo_succ (F := F) w1V.view f3 k (fun k => w1v (vx X w k)) h3
    iexists _; isplitr; swap; (· iexact H4); ipureintro; exact upTo_succ (F := F) w2V.view f4 k (fun k => w2v (vx X w k)) h4

end Cert.Proof

end
-- ==== Proof.TileOut.lean ====
/-
  What a vector subcore leaves after its loop: the buffers of the cumulative sums, their last lanes, and its pieces of the
  arrays in HBM, each as a function of the whole array.
-/
module

public import proofs.«01_k».proof.Proof.Loop

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

/-- A buffer of 256 words made of 16 vectors. -/
def cols {α : Type} (G : ℕ → S16.Idx → α) : S256.Idx → α := fun p => G ((p 0).val / 16) (ix (Fin.ofNat 16 (p 0).val))

theorem cols_piece {α : Type} (G : ℕ → S16.Idx → α) (e n : ℕ) (hn : n = 16 * e) (inb : ∀ q, ![n] q + S16.size q ≤ S256.size q) (x : S16.Idx) :
    G e x = cols G ((Rect.unit (s := S256) ![n] S16.size inb).emb x) := by
  have hx : (x 0).val < 16 := (x 0).isLt
  have e1 : (((Rect.unit (s := S256) ![n] S16.size inb).emb x) 0).val = n + 1 * (x 0).val := rfl
  unfold cols
  rw [e1]
  have q1 : (n + 1 * (x 0).val) / 16 = e := by omega
  have q2 : Fin.ofNat 16 (n + 1 * (x 0).val) = x 0 := Fin.ext (show (n + 1 * (x 0).val) % 16 = (x 0).val by omega)
  rw [q1, q2, ix_zero]

set_option maxHeartbeats 2000000 in
/-- Sixteen stores of sixteen lanes, one after the other, make such a buffer. -/
theorem cols_writes (v : View sig .scVector .vmem S256 .f32) (f : v.ty.Contents (Elt F)) (G : ℕ → S16.Idx → F .f32)
    {p0 p1 p2 p3 p4 p5 p6 p7 p8 p9 p10 p11 p12 p13 p14 p15 : S16.Idx → F .f32}
    {b0 : ∀ q, ![0] q + S16.size q ≤ S256.size q}
    {b1 : ∀ q, ![16] q + S16.size q ≤ S256.size q}
    {b2 : ∀ q, ![32] q + S16.size q ≤ S256.size q}
    {b3 : ∀ q, ![48] q + S16.size q ≤ S256.size q}
    {b4 : ∀ q, ![64] q + S16.size q ≤ S256.size q}
    {b5 : ∀ q, ![80] q + S16.size q ≤ S256.size q}
    {b6 : ∀ q, ![96] q + S16.size q ≤ S256.size q}
    {b7 : ∀ q, ![112] q + S16.size q ≤ S256.size q}
    {b8 : ∀ q, ![128] q + S16.size q ≤ S256.size q}
    {b9 : ∀ q, ![144] q + S16.size q ≤ S256.size q}
    {b10 : ∀ q, ![160] q + S16.size q ≤ S256.size q}
    {b11 : ∀ q, ![176] q + S16.size q ≤ S256.size q}
    {b12 : ∀ q, ![192] q + S16.size q ≤ S256.size q}
    {b13 : ∀ q, ![208] q + S16.size q ≤ S256.size q}
    {b14 : ∀ q, ![224] q + S16.size q ≤ S256.size q}
    {b15 : ∀ q, ![240] q + S16.size q ≤ S256.size q}
    (h0 : p0 = G 0) (h1 : p1 = G 1) (h2 : p2 = G 2) (h3 : p3 = G 3) (h4 : p4 = G 4) (h5 : p5 = G 5) (h6 : p6 = G 6) (h7 : p7 = G 7) (h8 : p8 = G 8) (h9 : p9 = G 9) (h10 : p10 = G 10) (h11 : p11 = G 11) (h12 : p12 = G 12) (h13 : p13 = G 13) (h14 : p14 = G 14) (h15 : p15 = G 15)
    : v.read (Elt F) (v.writes (Elt F) f [⟨Rect.unit ![240] S16.size b15, p15⟩, ⟨Rect.unit ![224] S16.size b14, p14⟩, ⟨Rect.unit ![208] S16.size b13, p13⟩, ⟨Rect.unit ![192] S16.size b12, p12⟩, ⟨Rect.unit ![176] S16.size b11, p11⟩, ⟨Rect.unit ![160] S16.size b10, p10⟩, ⟨Rect.unit ![144] S16.size b9, p9⟩, ⟨Rect.unit ![128] S16.size b8, p8⟩, ⟨Rect.unit ![112] S16.size b7, p7⟩, ⟨Rect.unit ![96] S16.size b6, p6⟩, ⟨Rect.unit ![80] S16.size b5, p5⟩, ⟨Rect.unit ![64] S16.size b4, p4⟩, ⟨Rect.unit ![48] S16.size b3, p3⟩, ⟨Rect.unit ![32] S16.size b2, p2⟩, ⟨Rect.unit ![16] S16.size b1, p1⟩, ⟨Rect.unit ![0] S16.size b0, p0⟩]) = cols G := by
  funext y
  refine View.read_writes_apply_of_pieces (Val := Elt F) (v := v) (f := f) (G := (cols G : S256.Idx → Elt F .f32)) _ ?_ y ?_
  · simp only [List.forall_mem_cons]
    refine ⟨fun x => (congrFun h15 x).trans (cols_piece G 15 _ (by decide) b15 x), fun x => (congrFun h14 x).trans (cols_piece G 14 _ (by decide) b14 x), fun x => (congrFun h13 x).trans (cols_piece G 13 _ (by decide) b13 x), fun x => (congrFun h12 x).trans (cols_piece G 12 _ (by decide) b12 x), fun x => (congrFun h11 x).trans (cols_piece G 11 _ (by decide) b11 x), fun x => (congrFun h10 x).trans (cols_piece G 10 _ (by decide) b10 x), fun x => (congrFun h9 x).trans (cols_piece G 9 _ (by decide) b9 x), fun x => (congrFun h8 x).trans (cols_piece G 8 _ (by decide) b8 x), fun x => (congrFun h7 x).trans (cols_piece G 7 _ (by decide) b7 x), fun x => (congrFun h6 x).trans (cols_piece G 6 _ (by decide) b6 x), fun x => (congrFun h5 x).trans (cols_piece G 5 _ (by decide) b5 x), fun x => (congrFun h4 x).trans (cols_piece G 4 _ (by decide) b4 x), fun x => (congrFun h3 x).trans (cols_piece G 3 _ (by decide) b3 x), fun x => (congrFun h2 x).trans (cols_piece G 2 _ (by decide) b2 x), fun x => (congrFun h1 x).trans (cols_piece G 1 _ (by decide) b1 x), fun x => (congrFun h0 x).trans (cols_piece G 0 _ (by decide) b0 x), fun p hp => absurd hp List.not_mem_nil⟩
  · have hy : (y 0).val < 256 := (y 0).isLt
    simp only [List.exists_mem_cons_iff, Rect.mem_set_unit]
    have key : ∀ n, (∀ a : Fin 1, ![n] a ≤ (y a).val ∧ (y a).val < ![n] a + S16.size a) ↔ (n ≤ (y 0).val ∧ (y 0).val < n + 16) := fun n =>
      ⟨fun h => h 0, fun h a => by obtain rfl : a = 0 := Subsingleton.elim _ _; exact h⟩
    by_cases c15 : 240 ≤ (y 0).val
    · exact .inl ((key _).mpr (by omega))
    by_cases c14 : 224 ≤ (y 0).val
    · exact .inr (.inl ((key _).mpr (by omega)))
    by_cases c13 : 208 ≤ (y 0).val
    · exact .inr (.inr (.inl ((key _).mpr (by omega))))
    by_cases c12 : 192 ≤ (y 0).val
    · exact .inr (.inr (.inr (.inl ((key _).mpr (by omega)))))
    by_cases c11 : 176 ≤ (y 0).val
    · exact .inr (.inr (.inr (.inr (.inl ((key _).mpr (by omega))))))
    by_cases c10 : 160 ≤ (y 0).val
    · exact .inr (.inr (.inr (.inr (.inr (.inl ((key _).mpr (by omega)))))))
    by_cases c9 : 144 ≤ (y 0).val
    · exact .inr (.inr (.inr (.inr (.inr (.inr (.inl ((key _).mpr (by omega))))))))
    by_cases c8 : 128 ≤ (y 0).val
    · exact .inr (.inr (.inr (.inr (.inr (.inr (.inr (.inl ((key _).mpr (by omega)))))))))
    by_cases c7 : 112 ≤ (y 0).val
    · exact .inr (.inr (.inr (.inr (.inr (.inr (.inr (.inr (.inl ((key _).mpr (by omega))))))))))
    by_cases c6 : 96 ≤ (y 0).val
    · exact .inr (.inr (.inr (.inr (.inr (.inr (.inr (.inr (.inr (.inl ((key _).mpr (by omega)))))))))))
    by_cases c5 : 80 ≤ (y 0).val
    · exact .inr (.inr (.inr (.inr (.inr (.inr (.inr (.inr (.inr (.inr (.inl ((key _).mpr (by omega))))))))))))
    by_cases c4 : 64 ≤ (y 0).val
    · exact .inr (.inr (.inr (.inr (.inr (.inr (.inr (.inr (.inr (.inr (.inr (.inl ((key _).mpr (by omega)))))))))))))
    by_cases c3 : 48 ≤ (y 0).val
    · exact .inr (.inr (.inr (.inr (.inr (.inr (.inr (.inr (.inr (.inr (.inr (.inr (.inl ((key _).mpr (by omega))))))))))))))
    by_cases c2 : 32 ≤ (y 0).val
    · exact .inr (.inr (.inr (.inr (.inr (.inr (.inr (.inr (.inr (.inr (.inr (.inr (.inr (.inl ((key _).mpr (by omega)))))))))))))))
    by_cases c1 : 16 ≤ (y 0).val
    · exact .inr (.inr (.inr (.inr (.inr (.inr (.inr (.inr (.inr (.inr (.inr (.inr (.inr (.inr (.inl ((key _).mpr (by omega))))))))))))))))
    exact .inr (.inr (.inr (.inr (.inr (.inr (.inr (.inr (.inr (.inr (.inr (.inr (.inr (.inr (.inr (.inl ((key _).mpr (by omega)))))))))))))))))

theorem ic_writes (f : S256.Idx → F .f32) (G : ℕ → S16.Idx → F .f32)
    {p0 p1 p2 p3 p4 p5 p6 p7 p8 p9 p10 p11 p12 p13 p14 p15 : S16.Idx → F .f32}
    {b0 : ∀ q, ![0] q + S16.size q ≤ S256.size q}
    {b1 : ∀ q, ![16] q + S16.size q ≤ S256.size q}
    {b2 : ∀ q, ![32] q + S16.size q ≤ S256.size q}
    {b3 : ∀ q, ![48] q + S16.size q ≤ S256.size q}
    {b4 : ∀ q, ![64] q + S16.size q ≤ S256.size q}
    {b5 : ∀ q, ![80] q + S16.size q ≤ S256.size q}
    {b6 : ∀ q, ![96] q + S16.size q ≤ S256.size q}
    {b7 : ∀ q, ![112] q + S16.size q ≤ S256.size q}
    {b8 : ∀ q, ![128] q + S16.size q ≤ S256.size q}
    {b9 : ∀ q, ![144] q + S16.size q ≤ S256.size q}
    {b10 : ∀ q, ![160] q + S16.size q ≤ S256.size q}
    {b11 : ∀ q, ![176] q + S16.size q ≤ S256.size q}
    {b12 : ∀ q, ![192] q + S16.size q ≤ S256.size q}
    {b13 : ∀ q, ![208] q + S16.size q ≤ S256.size q}
    {b14 : ∀ q, ![224] q + S16.size q ≤ S256.size q}
    {b15 : ∀ q, ![240] q + S16.size q ≤ S256.size q}
    (h0 : p0 = G 0) (h1 : p1 = G 1) (h2 : p2 = G 2) (h3 : p3 = G 3) (h4 : p4 = G 4) (h5 : p5 = G 5) (h6 : p6 = G 6) (h7 : p7 = G 7) (h8 : p8 = G 8) (h9 : p9 = G 9) (h10 : p10 = G 10) (h11 : p11 = G 11) (h12 : p12 = G 12) (h13 : p13 = G 13) (h14 : p14 = G 14) (h15 : p15 = G 15)
    : icV.view.writes (Elt F) f [⟨Rect.unit ![240] S16.size b15, p15⟩, ⟨Rect.unit ![224] S16.size b14, p14⟩, ⟨Rect.unit ![208] S16.size b13, p13⟩, ⟨Rect.unit ![192] S16.size b12, p12⟩, ⟨Rect.unit ![176] S16.size b11, p11⟩, ⟨Rect.unit ![160] S16.size b10, p10⟩, ⟨Rect.unit ![144] S16.size b9, p9⟩, ⟨Rect.unit ![128] S16.size b8, p8⟩, ⟨Rect.unit ![112] S16.size b7, p7⟩, ⟨Rect.unit ![96] S16.size b6, p6⟩, ⟨Rect.unit ![80] S16.size b5, p5⟩, ⟨Rect.unit ![64] S16.size b4, p4⟩, ⟨Rect.unit ![48] S16.size b3, p3⟩, ⟨Rect.unit ![32] S16.size b2, p2⟩, ⟨Rect.unit ![16] S16.size b1, p1⟩, ⟨Rect.unit ![0] S16.size b0, p0⟩] = cols G :=
  cols_writes icV.view f G h0 h1 h2 h3 h4 h5 h6 h7 h8 h9 h10 h11 h12 h13 h14 h15

theorem lc_writes (f : S256.Idx → F .f32) (G : ℕ → S16.Idx → F .f32)
    {p0 p1 p2 p3 p4 p5 p6 p7 p8 p9 p10 p11 p12 p13 p14 p15 : S16.Idx → F .f32}
    {b0 : ∀ q, ![0] q + S16.size q ≤ S256.size q}
    {b1 : ∀ q, ![16] q + S16.size q ≤ S256.size q}
    {b2 : ∀ q, ![32] q + S16.size q ≤ S256.size q}
    {b3 : ∀ q, ![48] q + S16.size q ≤ S256.size q}
    {b4 : ∀ q, ![64] q + S16.size q ≤ S256.size q}
    {b5 : ∀ q, ![80] q + S16.size q ≤ S256.size q}
    {b6 : ∀ q, ![96] q + S16.size q ≤ S256.size q}
    {b7 : ∀ q, ![112] q + S16.size q ≤ S256.size q}
    {b8 : ∀ q, ![128] q + S16.size q ≤ S256.size q}
    {b9 : ∀ q, ![144] q + S16.size q ≤ S256.size q}
    {b10 : ∀ q, ![160] q + S16.size q ≤ S256.size q}
    {b11 : ∀ q, ![176] q + S16.size q ≤ S256.size q}
    {b12 : ∀ q, ![192] q + S16.size q ≤ S256.size q}
    {b13 : ∀ q, ![208] q + S16.size q ≤ S256.size q}
    {b14 : ∀ q, ![224] q + S16.size q ≤ S256.size q}
    {b15 : ∀ q, ![240] q + S16.size q ≤ S256.size q}
    (h0 : p0 = G 0) (h1 : p1 = G 1) (h2 : p2 = G 2) (h3 : p3 = G 3) (h4 : p4 = G 4) (h5 : p5 = G 5) (h6 : p6 = G 6) (h7 : p7 = G 7) (h8 : p8 = G 8) (h9 : p9 = G 9) (h10 : p10 = G 10) (h11 : p11 = G 11) (h12 : p12 = G 12) (h13 : p13 = G 13) (h14 : p14 = G 14) (h15 : p15 = G 15)
    : lcV.view.writes (Elt F) f [⟨Rect.unit ![240] S16.size b15, p15⟩, ⟨Rect.unit ![224] S16.size b14, p14⟩, ⟨Rect.unit ![208] S16.size b13, p13⟩, ⟨Rect.unit ![192] S16.size b12, p12⟩, ⟨Rect.unit ![176] S16.size b11, p11⟩, ⟨Rect.unit ![160] S16.size b10, p10⟩, ⟨Rect.unit ![144] S16.size b9, p9⟩, ⟨Rect.unit ![128] S16.size b8, p8⟩, ⟨Rect.unit ![112] S16.size b7, p7⟩, ⟨Rect.unit ![96] S16.size b6, p6⟩, ⟨Rect.unit ![80] S16.size b5, p5⟩, ⟨Rect.unit ![64] S16.size b4, p4⟩, ⟨Rect.unit ![48] S16.size b3, p3⟩, ⟨Rect.unit ![32] S16.size b2, p2⟩, ⟨Rect.unit ![16] S16.size b1, p1⟩, ⟨Rect.unit ![0] S16.size b0, p0⟩] = cols G :=
  cols_writes lcV.view f G h0 h1 h2 h3 h4 h5 h6 h7 h8 h9 h10 h11 h12 h13 h14 h15

/-- One store of a whole vector is what is read back. -/
theorem read_full (v : View sig .scVector .vmem S16 .f32) (f : v.ty.Contents (Elt F)) (p : S16.Idx → F .f32) (b : ∀ q, ![0] q + S16.size q ≤ S16.size q) :
    v.read (Elt F) (v.writes (Elt F) f [⟨Rect.unit ![0] S16.size b, p⟩]) = p := by
  funext y
  exact View.read_writes_cons_unit_of_mem v f b p [] y y rfl (fun a => by obtain rfl : a = 0 := Subsingleton.elim _ _; exact (Nat.zero_add _).symm)

/-- The indexed load of places 15, 31, … takes the last lane of each vector. -/
theorem gather_last (G : ℕ → S16.Idx → F .f32) (h : ∀ (a : Fin S256.rank) (x : S16.Idx), ((![k1_pay242 lanes] : Fin 1 → IVec S16 32) a x).toNat < S256.size a) :
    loadIdx (F := F) (s := S256) (e := .f32) (cols G : S256.Idx → F .f32) ![k1_pay242 lanes] h = fun x : S16.Idx => G (x 0).val (ix 15) := by
  funext x
  have hv : ∀ x : S16.Idx, (k1_pay242 lanes x).toNat = 16 * (x 0).val + 15 := by decide +kernel
  show cols G _ = _
  unfold cols
  have e1 : ((idxAt (s := S256) ![k1_pay242 lanes] h x) 0).val = 16 * (x 0).val + 15 := hv x
  rw [e1]
  have q1 : (16 * (x 0).val + 15) / 16 = (x 0).val := by omega
  have q2 : Fin.ofNat 16 (16 * (x 0).val + 15) = (15 : Fin 16) := Fin.ext (show (16 * (x 0).val + 15) % 16 = 15 by omega)
  rw [q1, q2]

/-- An array of 16384 words, one vector of sixteen to each trip of each worker. -/
def outOf {α : Type} (g : ℕ → ℕ → S16.Idx → α) : S16384.Idx → α := fun p =>
  g ((p 0).val / 512) ((p 0).val % 512 / 16) (ix (Fin.ofNat 16 (p 0).val))

/-- An array of a row of sixteen words for each worker. -/
def rowOf {α : Type} (g : ℕ → ℕ → α) : S32x16.Idx → α := fun p => g (p 0).val (p 1).val

theorem rows_outOf {α : Type} (L : grid1.Coords) (g : ℕ → ℕ → S16.Idx → α) (y : S512.Idx) :
    rows (g (wid L)) y = outOf g ((outRect L).emb y) := by
  have hy : (y 0).val < 512 := (y 0).isLt
  have e1 : (((outRect L).emb y) 0).val = (k1_off4 L) 0 + 1 * (y 0).val := rfl
  have e2 : (k1_off4 L) 0 = 1024 * (L 1).val + 512 * (L 0).val := congrFun (k1_off4_eq L) 0
  unfold rows outOf
  rw [e1, e2]
  have q1 : (1024 * (L 1).val + 512 * (L 0).val + 1 * (y 0).val) / 512 = wid L := by unfold wid; omega
  have q2 : (1024 * (L 1).val + 512 * (L 0).val + 1 * (y 0).val) % 512 = (y 0).val := by omega
  have q3 : Fin.ofNat 16 (1024 * (L 1).val + 512 * (L 0).val + 1 * (y 0).val) = Fin.ofNat 16 (y 0).val :=
    Fin.ext (show (1024 * (L 1).val + 512 * (L 0).val + 1 * (y 0).val) % 16 = (y 0).val % 16 by omega)
  rw [q1, q2, q3]

theorem row_rowOf {α : Type} (L : grid1.Coords) (g : ℕ → ℕ → α) (i : S32x16.Idx) (x : S16.Idx) (h0 : (i 0).val = wid L) (h1 : (i 1).val = (x 0).val) :
    g (wid L) (x 0).val = rowOf g i := by
  unfold rowOf; rw [h0, h1]

theorem o1_out (L : grid1.Coords) (f : S16384.Idx → BitVec 32) (g : ℕ → ℕ → S16.Idx → BitVec 32) :
    ∀ i ∈ (o1W L).view.set, (o1W L).view.writes (Elt F) f [⟨Rect.whole S512, rows (g (wid L))⟩] i = outOf g i := by
  intro i hi
  obtain ⟨y, -, rfl⟩ := Finset.mem_map.mp hi
  exact (congrFun (View.read_writes_whole (Val := Elt F) (o1W L).view f (rows (g (wid L)))) y).trans (rows_outOf L g y)

theorem o2_out (L : grid1.Coords) (f : S16384.Idx → BitVec 32) (g : ℕ → ℕ → S16.Idx → BitVec 32) :
    ∀ i ∈ (o2W L).view.set, (o2W L).view.writes (Elt F) f [⟨Rect.whole S512, rows (g (wid L))⟩] i = outOf g i := by
  intro i hi
  obtain ⟨y, -, rfl⟩ := Finset.mem_map.mp hi
  exact (congrFun (View.read_writes_whole (Val := Elt F) (o2W L).view f (rows (g (wid L)))) y).trans (rows_outOf L g y)

theorem w1_out (L : grid1.Coords) (f : S16384.Idx → F .f32) (g : ℕ → ℕ → S16.Idx → F .f32) :
    ∀ i ∈ (w1W L).view.set, (w1W L).view.writes (Elt F) f [⟨Rect.whole S512, rows (g (wid L))⟩] i = outOf g i := by
  intro i hi
  obtain ⟨y, -, rfl⟩ := Finset.mem_map.mp hi
  exact (congrFun (View.read_writes_whole (Val := Elt F) (w1W L).view f (rows (g (wid L)))) y).trans (rows_outOf L g y)

theorem w2_out (L : grid1.Coords) (f : S16384.Idx → F .f32) (g : ℕ → ℕ → S16.Idx → F .f32) :
    ∀ i ∈ (w2W L).view.set, (w2W L).view.writes (Elt F) f [⟨Rect.whole S512, rows (g (wid L))⟩] i = outOf g i := by
  intro i hi
  obtain ⟨y, -, rfl⟩ := Finset.mem_map.mp hi
  exact (congrFun (View.read_writes_whole (Val := Elt F) (w2W L).view f (rows (g (wid L)))) y).trans (rows_outOf L g y)

theorem row_emb (L : grid1.Coords) (y : S16.Idx) : ((ipW L).view.emb y 0).val = wid L ∧ ((ipW L).view.emb y 1).val = (y 0).val := by
  have hr : ∀ y : S16.Idx, ((Shape.reshapeEquiv (s := S1x16) (s' := S16) squeezes_S1x16_S16.numel_eq y) 0).val = 0
      ∧ ((Shape.reshapeEquiv (s := S1x16) (s' := S16) squeezes_S1x16_S16.numel_eq y) 1).val = (y 0).val := by decide +kernel
  obtain ⟨r0, r1⟩ := hr y
  have e0 : ((ipW L).view.emb y 0).val = (k1_off5 L) 0 + 1 * ((Shape.reshapeEquiv (s := S1x16) (s' := S16) squeezes_S1x16_S16.numel_eq y) 0).val := rfl
  have e1 : ((ipW L).view.emb y 1).val = (k1_off5 L) 1 + 1 * ((Shape.reshapeEquiv (s := S1x16) (s' := S16) squeezes_S1x16_S16.numel_eq y) 1).val := rfl
  have o0 : (k1_off5 L) 0 = 2 * (L 1).val + (L 0).val := congrFun (k1_off5_eq L) 0
  have o1 : (k1_off5 L) 1 = 0 := congrFun (k1_off5_eq L) 1
  rw [e0, e1, r0, r1, o0, o1]
  exact ⟨rfl, by omega⟩

theorem ip_out (L : grid1.Coords) (f : S32x16.Idx → F .f32) (g : ℕ → ℕ → F .f32) :
    ∀ i ∈ (ipW L).view.set, (ipW L).view.writes (Elt F) f [⟨Rect.whole S16, fun x : S16.Idx => g (wid L) (x 0).val⟩] i = rowOf g i := by
  intro i hi
  obtain ⟨y, -, rfl⟩ := Finset.mem_map.mp hi
  exact (congrFun (View.read_writes_whole (Val := Elt F) (ipW L).view f (fun x : S16.Idx => g (wid L) (x 0).val)) y).trans
    (row_rowOf L g _ y (row_emb L y).1 (row_emb L y).2)

theorem ld_out (L : grid1.Coords) (f : S32x16.Idx → F .f32) (g : ℕ → ℕ → F .f32) :
    ∀ i ∈ (ldW L).view.set, (ldW L).view.writes (Elt F) f [⟨Rect.whole S16, fun x : S16.Idx => g (wid L) (x 0).val⟩] i = rowOf g i := by
  intro i hi
  obtain ⟨y, -, rfl⟩ := Finset.mem_map.mp hi
  exact (congrFun (View.read_writes_whole (Val := Elt F) (ldW L).view f (fun x : S16.Idx => g (wid L) (x 0).val)) y).trans
    (row_rowOf L g _ y (row_emb L y).1 (row_emb L y).2)

theorem ic_get (G : ℕ → S16.Idx → F .f32) (idx : IVec S16 32) (hidx : idx = k1_pay242 lanes)
    (h : ∀ (a : Fin S256.rank) (x : S16.Idx), ((![idx] : Fin 1 → IVec S16 32) a x).toNat < S256.size a) :
    ReadAs.same.apply (loadIdx (F := F) (s := S256) (e := .f32) (View.read (Elt F) (icV.access (Rect.whole S256)) (cols G : S256.Idx → F .f32)) ![idx] h)
      = fun x : S16.Idx => G (x 0).val (ix 15) := by
  subst hidx
  have e : View.read (Elt F) (icV.access (Rect.whole S256)) (cols G : S256.Idx → F .f32) = cols G := Memref.read_access_whole _ _ _
  rw [e]
  exact gather_last G h

theorem lc_get (G : ℕ → S16.Idx → F .f32) (idx : IVec S16 32) (hidx : idx = k1_pay242 lanes)
    (h : ∀ (a : Fin S256.rank) (x : S16.Idx), ((![idx] : Fin 1 → IVec S16 32) a x).toNat < S256.size a) :
    ReadAs.same.apply (loadIdx (F := F) (s := S256) (e := .f32) (View.read (Elt F) (lcV.access (Rect.whole S256)) (cols G : S256.Idx → F .f32)) ![idx] h)
      = fun x : S16.Idx => G (x 0).val (ix 15) := by
  subst hidx
  have e : View.read (Elt F) (lcV.access (Rect.whole S256)) (cols G : S256.Idx → F .f32) = cols G := Memref.read_access_whole _ _ _
  rw [e]
  exact gather_last G h

end Cert.Proof

end
-- ==== Proof.Pieces.lean ====
/-
  The values that the subcores write, and the pieces of the arrays that one of them is given and gives back.
-/
module

public import proofs.«01_k».proof.Proof.TileOut

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The arrays the subcores write, as functions of the flat logits. -/
abbrev gI1 (X : ℕ → F .f32) (w k : ℕ) : IV := i1v (vx X w k)
abbrev gI2 (X : ℕ → F .f32) (w k : ℕ) : IV := i2v (vx X w k)
abbrev gW1 (X : ℕ → F .f32) (w k : ℕ) : FV F := w1v (vx X w k)
abbrev gW2 (X : ℕ → F .f32) (w k : ℕ) : FV F := w2v (vx X w k)
/-- The cumulative sums of the probabilities and of the counts of worker `w`'s expert `e`. -/
abbrev cI (X : ℕ → F .f32) (w e : ℕ) : FV F := csum (accI (vx X w) 32 e) 15
abbrev cL (X : ℕ → F .f32) (w e : ℕ) : FV F := csumI (accL (vx X w) 32 e)
abbrev gIP (X : ℕ → F .f32) (w e : ℕ) : F .f32 := cI X w e (ix 15)
abbrev gLD (X : ℕ → F .f32) (w e : ℕ) : F .f32 := cL X w e (ix 15)

/-- The eight chunks of the logits that the subcore at `L` reads. -/
def inR (d : Dev nD) (L : grid1.Coords) (X : S262144.Idx → F .f32) : sProp (MM F) :=
  iprop(((inW0 L).view.loc (thr d L) ↦[(inW0 L).view.set]{fullShare} X)
    ∗ ((inW1 L).view.loc (thr d L) ↦[(inW1 L).view.set]{fullShare} X)
    ∗ ((inW2 L).view.loc (thr d L) ↦[(inW2 L).view.set]{fullShare} X)
    ∗ ((inW3 L).view.loc (thr d L) ↦[(inW3 L).view.set]{fullShare} X)
    ∗ ((inW4 L).view.loc (thr d L) ↦[(inW4 L).view.set]{fullShare} X)
    ∗ ((inW5 L).view.loc (thr d L) ↦[(inW5 L).view.set]{fullShare} X)
    ∗ ((inW6 L).view.loc (thr d L) ↦[(inW6 L).view.set]{fullShare} X)
    ∗ ((inW7 L).view.loc (thr d L) ↦[(inW7 L).view.set]{fullShare} X))

/-- The pieces of the six results that the subcore at `L` writes. -/
def outR (d : Dev nD) (L : grid1.Coords) (g1 g2 : S16384.Idx → BitVec 32) (g3 g4 : S16384.Idx → F .f32) (g5 g6 : S32x16.Idx → F .f32) : sProp (MM F) :=
  iprop(((o1W L).view.loc (thr d L) ↦[(o1W L).view.set]{fullShare} g1)
    ∗ ((o2W L).view.loc (thr d L) ↦[(o2W L).view.set]{fullShare} g2)
    ∗ ((w1W L).view.loc (thr d L) ↦[(w1W L).view.set]{fullShare} g3)
    ∗ ((w2W L).view.loc (thr d L) ↦[(w2W L).view.set]{fullShare} g4)
    ∗ ((ipW L).view.loc (thr d L) ↦[(ipW L).view.set]{fullShare} g5)
    ∗ ((ldW L).view.loc (thr d L) ↦[(ldW L).view.set]{fullShare} g6))

instance inR_storable (d : Dev nD) (L : grid1.Coords) (X : S262144.Idx → F .f32) :
    BI.Storable (upEmb : UEmb _ (MM F)) (inR d L X) := by unfold inR; infer_instance
instance outR_storable (d : Dev nD) (L : grid1.Coords) (g1 g2 : S16384.Idx → BitVec 32) (g3 g4 : S16384.Idx → F .f32) (g5 g6 : S32x16.Idx → F .f32) :
    BI.Storable (upEmb : UEmb _ (MM F)) (outR d L g1 g2 g3 g4 g5 g6) := by unfold outR; infer_instance

/-- The coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem coords_zero (c : Fin 2) (s : Fin 16) : (coordsV c s 0).val = c.val := rfl
theorem coords_one (c : Fin 2) (s : Fin 16) : (coordsV c s 1).val = s.val := rfl

/-- Pieces of one array cut by the value of a function of the index. -/
theorem pts_fiber {ℓ : Loc nD τ sig} (f : Buf (Elt F) ℓ) (A : Finset (Idx ℓ)) {κ : Type} [Fintype κ] [DecidableEq κ] (k : Idx ℓ → κ) :
    (ℓ ↦[A]{fullShare} f : sProp (MM F)) = bigSep Finset.univ fun a : κ => ℓ ↦[A.filter (k · = a)]{fullShare} f := by
  rw [← pointsTo_biUnion Finset.univ (ℓ := ℓ) (fun a => A.filter (k · = a))]
  · congr 1
    ext p
    simp
  · intro a _ b _ hab
    refine Finset.disjoint_left.mpr fun p hp hq => hab ?_
    exact ((Finset.mem_filter.mp hp).2).symm.trans (Finset.mem_filter.mp hq).2

/-! ## Which subcore an index belongs to -/

abbrev tokC (p : S16384.Idx) : Fin 2 := Fin.ofNat 2 ((p 0).val / 512)
abbrev tokS (p : S16384.Idx) : Fin 16 := Fin.ofNat 16 ((p 0).val / 1024)
abbrev rowC (p : S32x16.Idx) : Fin 2 := Fin.ofNat 2 (p 0).val
abbrev rowS (p : S32x16.Idx) : Fin 16 := Fin.ofNat 16 ((p 0).val / 2)
abbrev lgC (p : S262144.Idx) : Fin 2 := Fin.ofNat 2 ((p 0).val / 4096)
abbrev lgS (p : S262144.Idx) : Fin 16 := Fin.ofNat 16 ((p 0).val / 8192)
/-- Which of the eight chunks: the half of the experts, and the block of 128 tokens. -/
abbrev lgJ (p : S262144.Idx) : Fin 8 := Fin.ofNat 8 (4 * ((p 0).val / 131072) + (p 0).val / 1024 % 4)

/-- Sixteen-thousand-token pieces: what the subcore at `(c, s)` writes. -/
theorem tok_set (c : Fin 2) (s : Fin 16) : (outRect (coordsV c s)).set = (Finset.univ.filter (tokC · = c)).filter (tokS · = s) := by
  have hc := c.isLt
  have hs := s.isLt
  ext p
  have hp : (p 0).val < 16384 := (p 0).isLt
  simp only [Finset.mem_filter, Finset.mem_univ, true_and, Rect.mem_set_unit, Fin.ext_iff]
  have e2 : (k1_off4 (coordsV c s)) 0 = 1024 * s.val + 512 * c.val := congrFun (k1_off4_eq (coordsV c s)) 0
  constructor
  · intro h
    have h0 := h 0
    rw [e2] at h0
    have h1 : 1024 * s.val + 512 * c.val ≤ (p 0).val ∧ (p 0).val < 1024 * s.val + 512 * c.val + 512 := h0
    exact ⟨show (p 0).val / 512 % 2 = c.val by omega, show (p 0).val / 1024 % 16 = s.val by omega⟩
  · intro ⟨h1, h2⟩ a
    obtain rfl : a = 0 := Subsingleton.elim _ _
    rw [e2]
    replace h1 : (p 0).val / 512 % 2 = c.val := h1
    replace h2 : (p 0).val / 1024 % 16 = s.val := h2
    show 1024 * s.val + 512 * c.val ≤ (p 0).val ∧ (p 0).val < 1024 * s.val + 512 * c.val + 512
    omega

/-- The row that the subcore at `(c, s)` writes. -/
theorem row_set (c : Fin 2) (s : Fin 16) : (rowRect (coordsV c s)).set = (Finset.univ.filter (rowC · = c)).filter (rowS · = s) := by
  have hc := c.isLt
  have hs := s.isLt
  ext p
  have hp : (p 0).val < 32 := (p 0).isLt
  have hp1 : (p 1).val < 16 := (p 1).isLt
  simp only [Finset.mem_filter, Finset.mem_univ, true_and, Rect.mem_set_unit, Fin.ext_iff]
  have o0 : (k1_off5 (coordsV c s)) 0 = 2 * s.val + c.val := congrFun (k1_off5_eq (coordsV c s)) 0
  have o1 : (k1_off5 (coordsV c s)) 1 = 0 := congrFun (k1_off5_eq (coordsV c s)) 1
  constructor
  · intro h
    have h0 := h 0
    rw [o0] at h0
    have h1 : 2 * s.val + c.val ≤ (p 0).val ∧ (p 0).val < 2 * s.val + c.val + 1 := h0
    exact ⟨show (p 0).val % 2 = c.val by omega, show (p 0).val / 2 % 16 = s.val by omega⟩
  · intro ⟨h1, h2⟩ a
    replace h1 : (p 0).val % 2 = c.val := h1
    replace h2 : (p 0).val / 2 % 16 = s.val := h2
    match a with
    | 0 =>
      rw [o0]
      show 2 * s.val + c.val ≤ (p 0).val ∧ (p 0).val < 2 * s.val + c.val + 1
      omega
    | 1 =>
      rw [o1]
      show 0 ≤ (p 1).val ∧ (p 1).val < 0 + 16
      omega

/-- The chunk at `(a, b)` that the subcore at `(c, s)` reads. -/
theorem lg_set (c : Fin 2) (s : Fin 16) (a : Fin 2) (b : Fin 4) (j : Fin 8) (hj : j.val = 4 * a.val + b.val) :
    (Rect.unit (s := S262144) (k1_off1 (coordsV c s) (BitVec.ofNat 32 (131072 * a)) (BitVec.ofNat 32 b)) S1024.size (k1_off1_inb (coordsV c s) a b)).set
      = ((Finset.univ.filter (lgC · = c)).filter (lgS · = s)).filter (lgJ · = j) := by
  have hc := c.isLt
  have hs := s.isLt
  have ha := a.isLt
  have hb := b.isLt
  ext p
  have hp : (p 0).val < 262144 := (p 0).isLt
  simp only [Finset.mem_filter, Finset.mem_univ, true_and, Rect.mem_set_unit, Fin.ext_iff]
  have e2 : (k1_off1 (coordsV c s) (BitVec.ofNat 32 (131072 * a)) (BitVec.ofNat 32 b)) 0 = 131072 * a.val + 8192 * s.val + 4096 * c.val + 1024 * b.val :=
    congrFun (k1_off1_eq (coordsV c s) a b) 0
  constructor
  · intro h
    have h0 := h 0
    rw [e2] at h0
    have h1 : 131072 * a.val + 8192 * s.val + 4096 * c.val + 1024 * b.val ≤ (p 0).val ∧ (p 0).val < 131072 * a.val + 8192 * s.val + 4096 * c.val + 1024 * b.val + 1024 := h0
    exact ⟨⟨show (p 0).val / 4096 % 2 = c.val by omega, show (p 0).val / 8192 % 16 = s.val by omega⟩,
      show (4 * ((p 0).val / 131072) + (p 0).val / 1024 % 4) % 8 = j.val by omega⟩
  · intro ⟨⟨h1, h2⟩, h3⟩ q
    obtain rfl : q = 0 := Subsingleton.elim _ _
    rw [e2]
    replace h1 : (p 0).val / 4096 % 2 = c.val := h1
    replace h2 : (p 0).val / 8192 % 16 = s.val := h2
    replace h3 : (4 * ((p 0).val / 131072) + (p 0).val / 1024 % 4) % 8 = j.val := h3
    show 131072 * a.val + 8192 * s.val + 4096 * c.val + 1024 * b.val ≤ (p 0).val ∧ (p 0).val < 131072 * a.val + 8192 * s.val + 4096 * c.val + 1024 * b.val + 1024
    generalize (p 0).val = n at *
    have hl : n / 131072 = 0 ∨ n / 131072 = 1 := by omega
    have e1 : n / 131072 = a.val := by omega
    have e3 : n / 1024 % 4 = b.val := by omega
    omega

/-! ## The windows' sets -/

theorem set_o1W (c : Fin 2) (s : Fin 16) : (o1W (coordsV c s)).view.set = (Finset.univ.filter (tokC · = c)).filter (tokS · = s) := by
  rw [← tok_set]
  show ((View.whole (main_v3_0_scv : Ref sig .scVector)).slice (outRect (coordsV c s))).set = _
  rw [View.set_slice]; exact Finset.map_refl
theorem set_o2W (c : Fin 2) (s : Fin 16) : (o2W (coordsV c s)).view.set = (Finset.univ.filter (tokC · = c)).filter (tokS · = s) := set_o1W c s
theorem set_w1W (c : Fin 2) (s : Fin 16) : (w1W (coordsV c s)).view.set = (Finset.univ.filter (tokC · = c)).filter (tokS · = s) := set_o1W c s
theorem set_w2W (c : Fin 2) (s : Fin 16) : (w2W (coordsV c s)).view.set = (Finset.univ.filter (tokC · = c)).filter (tokS · = s) := set_o1W c s

theorem set_ipW (c : Fin 2) (s : Fin 16) : (ipW (coordsV c s)).view.set = (Finset.univ.filter (rowC · = c)).filter (rowS · = s) := by
  rw [← row_set]
  show (((View.whole (main_v3_4_scv : Ref sig .scVector)).slice (rowRect (coordsV c s))).reshape S16 squeezes_S1x16_S16.numel_eq).set = _
  rw [View.set_reshape, View.set_slice]; exact Finset.map_refl
theorem set_ldW (c : Fin 2) (s : Fin 16) : (ldW (coordsV c s)).view.set = (Finset.univ.filter (rowC · = c)).filter (rowS · = s) := set_ipW c s

theorem set_inW (c : Fin 2) (s : Fin 16) (a : Fin 2) (b : Fin 4) (j : Fin 8) (hj : j.val = 4 * a.val + b.val) :
    (inWb (coordsV c s) (BitVec.ofNat 32 (131072 * a)) (BitVec.ofNat 32 b) (k1_off1_inb (coordsV c s) a b)).view.set
      = ((Finset.univ.filter (lgC · = c)).filter (lgS · = s)).filter (lgJ · = j) := by
  rw [← lg_set c s a b j hj]
  show ((View.whole (main_v2_scv : Ref sig .scVector)).slice (Rect.unit (s := S262144) (k1_off1 (coordsV c s) (BitVec.ofNat 32 (131072 * a)) (BitVec.ofNat 32 b)) S1024.size (k1_off1_inb (coordsV c s) a b))).set = _
  rw [View.set_slice]; exact Finset.map_refl

/-! ## Whole arrays as the subcores' pieces -/

/-- An array of one word to each token, cut among the subcores. -/
theorem split_tok (ℓ : Loc nD τ sig) (f : Buf (Elt F) ℓ) (kc : Idx ℓ → Fin 2) (ks : Idx ℓ → Fin 16) :
    (ℓ ↦{fullShare} f : sProp (MM F))
      = bigSep Finset.univ fun c : Fin 2 => bigSep Finset.univ fun s : Fin 16 => ℓ ↦[(Finset.univ.filter (kc · = c)).filter (ks · = s)]{fullShare} f :=
  (pts_fiber f Finset.univ kc).trans (bigSep_congr fun c _ => pts_fiber f _ ks)

theorem split_o1 (d : Dev nD) (f : S16384.Idx → BitVec 32) :
    ((SparseCore.T d).loc main_v3_0 ↦{fullShare} (f : Buf (Elt F) ((SparseCore.T d).loc main_v3_0)) : sProp (MM F))
      = bigSep Finset.univ fun c : Fin 2 => bigSep Finset.univ fun s : Fin 16 =>
        ((o1W (coordsV c s)).view.loc (thr d (coordsV c s)) ↦[(o1W (coordsV c s)).view.set]{fullShare} f) :=
  (split_tok ((SparseCore.T d).loc main_v3_0) f tokC tokS).trans (bigSep_congr fun c _ => bigSep_congr fun s _ => by rw [set_o1W c s]; rfl)
theorem split_o2 (d : Dev nD) (f : S16384.Idx → BitVec 32) :
    ((SparseCore.T d).loc main_v3_1 ↦{fullShare} (f : Buf (Elt F) ((SparseCore.T d).loc main_v3_1)) : sProp (MM F))
      = bigSep Finset.univ fun c : Fin 2 => bigSep Finset.univ fun s : Fin 16 =>
        ((o2W (coordsV c s)).view.loc (thr d (coordsV c s)) ↦[(o2W (coordsV c s)).view.set]{fullShare} f) :=
  (split_tok ((SparseCore.T d).loc main_v3_1) f tokC tokS).trans (bigSep_congr fun c _ => bigSep_congr fun s _ => by rw [set_o2W c s]; rfl)
theorem split_w1 (d : Dev nD) (f : S16384.Idx → F .f32) :
    ((SparseCore.T d).loc main_v3_2 ↦{fullShare} (f : Buf (Elt F) ((SparseCore.T d).loc main_v3_2)) : sProp (MM F))
      = bigSep Finset.univ fun c : Fin 2 => bigSep Finset.univ fun s : Fin 16 =>
        ((w1W (coordsV c s)).view.loc (thr d (coordsV c s)) ↦[(w1W (coordsV c s)).view.set]{fullShare} f) :=
  (split_tok ((SparseCore.T d).loc main_v3_2) f tokC tokS).trans (bigSep_congr fun c _ => bigSep_congr fun s _ => by rw [set_w1W c s]; rfl)
theorem split_w2 (d : Dev nD) (f : S16384.Idx → F .f32) :
    ((SparseCore.T d).loc main_v3_3 ↦{fullShare} (f : Buf (Elt F) ((SparseCore.T d).loc main_v3_3)) : sProp (MM F))
      = bigSep Finset.univ fun c : Fin 2 => bigSep Finset.univ fun s : Fin 16 =>
        ((w2W (coordsV c s)).view.loc (thr d (coordsV c s)) ↦[(w2W (coordsV c s)).view.set]{fullShare} f) :=
  (split_tok ((SparseCore.T d).loc main_v3_3) f tokC tokS).trans (bigSep_congr fun c _ => bigSep_congr fun s _ => by rw [set_w2W c s]; rfl)
theorem split_ip (d : Dev nD) (f : S32x16.Idx → F .f32) :
    ((SparseCore.T d).loc main_v3_4 ↦{fullShare} (f : Buf (Elt F) ((SparseCore.T d).loc main_v3_4)) : sProp (MM F))
      = bigSep Finset.univ fun c : Fin 2 => bigSep Finset.univ fun s : Fin 16 =>
        ((ipW (coordsV c s)).view.loc (thr d (coordsV c s)) ↦[(ipW (coordsV c s)).view.set]{fullShare} f) :=
  (split_tok ((SparseCore.T d).loc main_v3_4) f rowC rowS).trans (bigSep_congr fun c _ => bigSep_congr fun s _ => by rw [set_ipW c s]; rfl)
theorem split_ld (d : Dev nD) (f : S32x16.Idx → F .f32) :
    ((SparseCore.T d).loc main_v3_5 ↦{fullShare} (f : Buf (Elt F) ((SparseCore.T d).loc main_v3_5)) : sProp (MM F))
      = bigSep Finset.univ fun c : Fin 2 => bigSep Finset.univ fun s : Fin 16 =>
        ((ldW (coordsV c s)).view.loc (thr d (coordsV c s)) ↦[(ldW (coordsV c s)).view.set]{fullShare} f) :=
  (split_tok ((SparseCore.T d).loc main_v3_5) f rowC rowS).trans (bigSep_congr fun c _ => bigSep_congr fun s _ => by rw [set_ldW c s]; rfl)

theorem split_lg (d : Dev nD) (X : S262144.Idx → F .f32) :
    ((SparseCore.T d).loc main_v2 ↦{fullShare} (X : Buf (Elt F) ((SparseCore.T d).loc main_v2)) : sProp (MM F))
      = bigSep Finset.univ fun c : Fin 2 => bigSep Finset.univ fun s : Fin 16 => inR d (coordsV c s) X := by
  refine (split_tok ((SparseCore.T d).loc main_v2) X lgC lgS).trans (bigSep_congr fun c _ => bigSep_congr fun s _ => ?_)
  refine (pts_fiber (ℓ := (SparseCore.T d).loc main_v2) X _ lgJ).trans ((bigSep_univ_eq_bigSepL [0, 1, 2, 3, 4, 5, 6, 7] (by decide) (by decide) _).trans ?_)
  have e0 : (inW0 (coordsV c s)).view.set = _ := set_inW c s 0 0 0 rfl
  have e1 : (inW1 (coordsV c s)).view.set = _ := set_inW c s 0 1 1 rfl
  have e2 : (inW2 (coordsV c s)).view.set = _ := set_inW c s 0 2 2 rfl
  have e3 : (inW3 (coordsV c s)).view.set = _ := set_inW c s 0 3 3 rfl
  have e4 : (inW4 (coordsV c s)).view.set = _ := set_inW c s 1 0 4 rfl
  have e5 : (inW5 (coordsV c s)).view.set = _ := set_inW c s 1 1 5 rfl
  have e6 : (inW6 (coordsV c s)).view.set = _ := set_inW c s 1 2 6 rfl
  have e7 : (inW7 (coordsV c s)).view.set = _ := set_inW c s 1 3 7 rfl
  unfold inR
  rw [e0, e1, e2, e3, e4, e5, e6, e7]
  simp only [bigSepL_cons_cons, bigSepL_singleton]
  rfl

/-- Everything the subcores read and write, as their pieces. -/
theorem split_all (d : Dev nD) (X : S262144.Idx → F .f32) (g1 g2 : S16384.Idx → BitVec 32) (g3 g4 : S16384.Idx → F .f32) (g5 g6 : S32x16.Idx → F .f32) :
    (iprop(((SparseCore.T d).loc main_v2 ↦{fullShare} (X : Buf (Elt F) ((SparseCore.T d).loc main_v2)))
      ∗ ((SparseCore.T d).loc main_v3_0 ↦{fullShare} (g1 : Buf (Elt F) ((SparseCore.T d).loc main_v3_0)))
      ∗ ((SparseCore.T d).loc main_v3_1 ↦{fullShare} (g2 : Buf (Elt F) ((SparseCore.T d).loc main_v3_1)))
      ∗ ((SparseCore.T d).loc main_v3_2 ↦{fullShare} (g3 : Buf (Elt F) ((SparseCore.T d).loc main_v3_2)))
      ∗ ((SparseCore.T d).loc main_v3_3 ↦{fullShare} (g4 : Buf (Elt F) ((SparseCore.T d).loc main_v3_3)))
      ∗ ((SparseCore.T d).loc main_v3_4 ↦{fullShare} (g5 : Buf (Elt F) ((SparseCore.T d).loc main_v3_4)))
      ∗ ((SparseCore.T d).loc main_v3_5 ↦{fullShare} (g6 : Buf (Elt F) ((SparseCore.T d).loc main_v3_5)))) : sProp (MM F))
      = bigSep Finset.univ fun c : Fin 2 => bigSep Finset.univ fun s : Fin 16 =>
        iprop(inR d (coordsV c s) X ∗ outR d (coordsV c s) g1 g2 g3 g4 g5 g6) := by
  rw [split_lg, split_o1, split_o2, split_w1, split_w2, split_ip, split_ld]
  unfold outR
  simp only [← bigSep_sep']

end Cert.Proof

end
-- ==== Proof.CallRes.lean ====
/-
  What the launch of the SparseCore call carries: the pieces handed to each subcore and brought back, and what a subcore has of its own.
-/
module

public import proofs.«01_k».proof.Proof.Pieces

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (X : Dev nD → S262144.Idx → F .f32)

/-- What the subcore at `(c, i)` of device `d` is given. -/
def goR (d : Dev nD) (c : Fin 2) (i : Fin 16) : sProp (MM F) :=
  iprop(inR d (coordsV c i) (X d) ∗ outR d (coordsV c i) (m ((SparseCore.T d).loc main_v3_0)) (m ((SparseCore.T d).loc main_v3_1)) (m ((SparseCore.T d).loc main_v3_2)) (m ((SparseCore.T d).loc main_v3_3)) (m ((SparseCore.T d).loc main_v3_4)) (m ((SparseCore.T d).loc main_v3_5)))
/-- What it gives back. -/
def tdR (d : Dev nD) (c : Fin 2) (i : Fin 16) : sProp (MM F) :=
  iprop(inR d (coordsV c i) (X d) ∗ outR d (coordsV c i) (outOf (gI1 (fl (X d)))) (outOf (gI2 (fl (X d)))) (outOf (gW1 (fl (X d)))) (outOf (gW2 (fl (X d)))) (rowOf (gIP (fl (X d)))) (rowOf (gLD (fl (X d)))))

instance goR_storable (d : Dev nD) (c : Fin 2) (i : Fin 16) : BI.Storable (upEmb : UEmb _ (MM F)) (goR m X d c i) := by
  unfold goR; infer_instance
instance tdR_storable (d : Dev nD) (c : Fin 2) (i : Fin 16) : BI.Storable (upEmb : UEmb _ (MM F)) (tdR X d c i) := by
  unfold tdR; infer_instance

/-- What a SparseCore is given, and what it gives back: its sixteen subcores' pieces. -/
def stR (d : Dev nD) (c : Fin 2) : sProp (MM F) := bigSep Finset.univ fun i : Fin 16 => goR m X d c i
def dnR (d : Dev nD) (c : Fin 2) : sProp (MM F) := bigSep Finset.univ fun i : Fin 16 => tdR X d c i
instance stR_storable (d : Dev nD) (c : Fin 2) : BI.Storable (upEmb : UEmb _ (MM F)) (stR m X d c) := by
  unfold stR; infer_instance
instance dnR_storable (d : Dev nD) (c : Fin 2) : BI.Storable (upEmb : UEmb _ (MM F)) (dnR X d c) := by
  unfold dnR; infer_instance

/-- The call hands each subcore its pieces and takes them back written. -/
def P : (K (F := F)).Pay (nD := nD) (Val := Elt F) (Name := ℕ) (U := UU) where
  st := fun q d c => match q with | 0 => stR m X d (Fin.cast nCore_zero c)
  dn := fun q d c => match q with | 0 => dnR X d (Fin.cast nCore_zero c)
  go := fun q d c i => match q with | 0 => goR m X d (Fin.cast nCore_zero c) (Fin.cast nSub_zero i)
  td := fun q d c i => match q with | 0 => tdR X d (Fin.cast nCore_zero c) (Fin.cast nSub_zero i)
  x := fun _ _ => iprop(emp)

theorem P_st (d : Dev nD) (c : Fin ((K (F := F)).nCore 0)) : (P m X).st 0 d c = stR m X d (Fin.cast nCore_zero c) := by dsimp only [P]
theorem P_dn (d : Dev nD) (c : Fin ((K (F := F)).nCore 0)) : (P m X).dn 0 d c = dnR X d (Fin.cast nCore_zero c) := by dsimp only [P]
theorem P_go (d : Dev nD) (c : Fin ((K (F := F)).nCore 0)) (i : Fin ((K (F := F)).nSub 0)) :
    (P m X).go 0 d c i = goR m X d (Fin.cast nCore_zero c) (Fin.cast nSub_zero i) := by dsimp only [P]
theorem P_td (d : Dev nD) (c : Fin ((K (F := F)).nCore 0)) (i : Fin ((K (F := F)).nSub 0)) :
    (P m X).td 0 d c i = tdR X d (Fin.cast nCore_zero c) (Fin.cast nSub_zero i) := by dsimp only [P]

instance P_storable : (P (F := F) m X).IsStorable where
  st q d c := match q with | 0 => (P_st m X d c).symm ▸ stR_storable m X d (Fin.cast nCore_zero c)
  dn q d c := match q with | 0 => (P_dn m X d c).symm ▸ dnR_storable X d (Fin.cast nCore_zero c)
  go q d c i := match q with | 0 => (P_go m X d c i).symm ▸ goR_storable m X d (Fin.cast nCore_zero c) (Fin.cast nSub_zero i)
  td q d c i := match q with | 0 => (P_td m X d c i).symm ▸ tdR_storable X d (Fin.cast nCore_zero c) (Fin.cast nSub_zero i)

omit [FloatOps F] in
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

set_option maxHeartbeats 800000 in
theorem vecSplit : (K (F := F)).VecSplit' (P m X) 0 := by
  intro d c
  simp only [P_st, P_dn, P_go, P_td]
  unfold stR dnR
  rw [bigSep_tasks (F := F) (fun i => goR m X d (Fin.cast nCore_zero c) i), bigSep_tasks (F := F) (fun i => tdR X d (Fin.cast nCore_zero c) i)]
  iintro H; imodintro
  isplitl [H]; · iexact H
  iintro H; iexact H

omit [FloatOps F] in
theorem bigSep_cores (Φ : Fin 2 → sProp (MM F)) :
    (bigSep Finset.univ fun i : Fin ((K (F := F)).nCore 0) => Φ (Fin.cast nCore_zero i)) = bigSep Finset.univ Φ :=
  bigSep_congr fun _ _ => congrArg Φ (Fin.ext rfl)

/-- What the two SparseCores are given: the logits and the six results, whole. -/
theorem st0_eq (d : Dev nD) : (bigSep Finset.univ fun c : Fin ((K (F := F)).nCore 0) => (P m X).st 0 d c)
    = iprop(((SparseCore.T d).loc main_v2 ↦{fullShare} (X d : Buf (Elt F) ((SparseCore.T d).loc main_v2)))
      ∗ ((SparseCore.T d).loc main_v3_0 ↦{fullShare} m ((SparseCore.T d).loc main_v3_0))
      ∗ ((SparseCore.T d).loc main_v3_1 ↦{fullShare} m ((SparseCore.T d).loc main_v3_1))
      ∗ ((SparseCore.T d).loc main_v3_2 ↦{fullShare} m ((SparseCore.T d).loc main_v3_2))
      ∗ ((SparseCore.T d).loc main_v3_3 ↦{fullShare} m ((SparseCore.T d).loc main_v3_3))
      ∗ ((SparseCore.T d).loc main_v3_4 ↦{fullShare} m ((SparseCore.T d).loc main_v3_4))
      ∗ ((SparseCore.T d).loc main_v3_5 ↦{fullShare} m ((SparseCore.T d).loc main_v3_5))) := by
  simp only [P_st]
  rw [bigSep_cores (stR m X d)]
  unfold stR goR
  exact (split_all d (X d) (m ((SparseCore.T d).loc main_v3_0)) (m ((SparseCore.T d).loc main_v3_1)) (m ((SparseCore.T d).loc main_v3_2)) (m ((SparseCore.T d).loc main_v3_3)) (m ((SparseCore.T d).loc main_v3_4)) (m ((SparseCore.T d).loc main_v3_5))).symm

/-- What they bring back. -/
theorem dn0_eq (d : Dev nD) : (bigSep Finset.univ fun c : Fin ((K (F := F)).nCore 0) => (P m X).dn 0 d c)
    = iprop(((SparseCore.T d).loc main_v2 ↦{fullShare} (X d : Buf (Elt F) ((SparseCore.T d).loc main_v2)))
      ∗ ((SparseCore.T d).loc main_v3_0 ↦{fullShare} (outOf (gI1 (fl (X d))) : Buf (Elt F) ((SparseCore.T d).loc main_v3_0)))
      ∗ ((SparseCore.T d).loc main_v3_1 ↦{fullShare} (outOf (gI2 (fl (X d))) : Buf (Elt F) ((SparseCore.T d).loc main_v3_1)))
      ∗ ((SparseCore.T d).loc main_v3_2 ↦{fullShare} (outOf (gW1 (fl (X d))) : Buf (Elt F) ((SparseCore.T d).loc main_v3_2)))
      ∗ ((SparseCore.T d).loc main_v3_3 ↦{fullShare} (outOf (gW2 (fl (X d))) : Buf (Elt F) ((SparseCore.T d).loc main_v3_3)))
      ∗ ((SparseCore.T d).loc main_v3_4 ↦{fullShare} (rowOf (gIP (fl (X d))) : Buf (Elt F) ((SparseCore.T d).loc main_v3_4)))
      ∗ ((SparseCore.T d).loc main_v3_5 ↦{fullShare} (rowOf (gLD (fl (X d))) : Buf (Elt F) ((SparseCore.T d).loc main_v3_5)))) := by
  simp only [P_dn]
  rw [bigSep_cores (dnR X d)]
  unfold dnR tdR
  exact (split_all d (X d) (outOf (gI1 (fl (X d)))) (outOf (gI2 (fl (X d)))) (outOf (gW1 (fl (X d)))) (outOf (gW2 (fl (X d)))) (rowOf (gIP (fl (X d)))) (rowOf (gLD (fl (X d))))).symm

/-! ## What a subcore has of its own -/

omit [FloatOps F] in
/-- Its three copy semaphores at zero, and the rest. -/
theorem ownSems0_V (d : Dev nD) (L : grid1.Coords) :
    (ownSems0 (V d (cV L) (jV L)) : sProp (MM F))
      = iprop(semVal ((V d (cV L) (jV L), SemLoc.dma cc1_scratch9.sem) : GSem nD τ sig) 0 ∗ semVal ((V d (cV L) (jV L), SemLoc.dma cc1_scratch10.sem) : GSem nD τ sig) 0 ∗ semVal ((V d (cV L) (jV L), SemLoc.dma cc1_scratch11.sem) : GSem nD τ sig) 0
          ∗ bigSep ((((ownCells (V d (cV L) (jV L))).erase ((V d (cV L) (jV L), SemLoc.dma cc1_scratch9.sem) : GSem nD τ sig)).erase ((V d (cV L) (jV L), SemLoc.dma cc1_scratch10.sem) : GSem nD τ sig)).erase ((V d (cV L) (jV L), SemLoc.dma cc1_scratch11.sem) : GSem nD τ sig)) fun g => semVal g 0) := by
  unfold SparseCore.Cfg.ownSems0
  rw [SparseCore.bigSep_erase' ((mem_ownCells (g := ((V d (cV L) (jV L), SemLoc.dma cc1_scratch9.sem) : GSem nD τ sig))).mpr ⟨rfl, by
      show (SemLoc.dma cc1_scratch9.sem : SemLoc sig).isScoped .scVector = true; decide⟩),
    SparseCore.bigSep_erase' (Finset.mem_erase.mpr ⟨by simp; decide, (mem_ownCells (g := ((V d (cV L) (jV L), SemLoc.dma cc1_scratch10.sem) : GSem nD τ sig))).mpr ⟨rfl, by
      show (SemLoc.dma cc1_scratch10.sem : SemLoc sig).isScoped .scVector = true; decide⟩⟩),
    SparseCore.bigSep_erase' (Finset.mem_erase.mpr ⟨by simp; decide, Finset.mem_erase.mpr ⟨by simp; decide,
      (mem_ownCells (g := ((V d (cV L) (jV L), SemLoc.dma cc1_scratch11.sem) : GSem nD τ sig))).mpr ⟨rfl, by show (SemLoc.dma cc1_scratch11.sem : SemLoc sig).isScoped .scVector = true; decide⟩⟩⟩)]

omit [FloatOps F] in
/-- Its nine buffers, each at some contents, and the rest. -/
theorem ownBufs_V (d : Dev nD) (L : grid1.Coords) :
    (ownBufs (V d (cV L) (jV L)) : sProp (MM F))
      = iprop((∃ f, lgV.view.loc (thr d L) ↦{fullShare} f)
          ∗ (∃ f, o1V.view.loc (thr d L) ↦{fullShare} f)
          ∗ (∃ f, o2V.view.loc (thr d L) ↦{fullShare} f)
          ∗ (∃ f, w1V.view.loc (thr d L) ↦{fullShare} f)
          ∗ (∃ f, w2V.view.loc (thr d L) ↦{fullShare} f)
          ∗ (∃ f, icV.view.loc (thr d L) ↦{fullShare} f)
          ∗ (∃ f, lcV.view.loc (thr d L) ↦{fullShare} f)
          ∗ (∃ f, itV.view.loc (thr d L) ↦{fullShare} f)
          ∗ (∃ f, ltV.view.loc (thr d L) ↦{fullShare} f)
          ∗ bigSep ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := (Proc.scVector (cV L) (jV L)).devRef cc1_scratch5) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := (Proc.scVector (cV L) (jV L)).devRef cc1_scratch6) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := (Proc.scVector (cV L) (jV L)).devRef cc1_scratch7) rfl⟩⟩⟩⟩⟩⟩⟩),
    SparseCore.bigSep_erase' (Finset.mem_erase.mpr ⟨fun e => absurd (Proc.devRef_injective _ e) (show (cc1_scratch8 : Ref sig .scVector) ≠ cc1_scratch7 by decide), Finset.mem_erase.mpr ⟨fun e => absurd (Proc.devRef_injective _ e) (show (cc1_scratch8 : Ref sig .scVector) ≠ cc1_scratch6 by decide), Finset.mem_erase.mpr ⟨fun e => absurd (Proc.devRef_injective _ e) (show (cc1_scratch8 : Ref sig .scVector) ≠ cc1_scratch5 by decide), Finset.mem_erase.mpr ⟨fun e => absurd (Proc.devRef_injective _ e) (show (cc1_scratch8 : Ref sig .scVector) ≠ cc1_scratch4 by decide), Finset.mem_erase.mpr ⟨fun e => absurd (Proc.devRef_injective _ e) (show (cc1_scratch8 : Ref sig .scVector) ≠ cc1_scratch3 by decide), Finset.mem_erase.mpr ⟨fun e => absurd (Proc.devRef_injective _ e) (show (cc1_scratch8 : Ref sig .scVector) ≠ cc1_scratch2 by decide), Finset.mem_erase.mpr ⟨fun e => absurd (Proc.devRef_injective _ e) (show (cc1_scratch8 : Ref sig .scVector) ≠ cc1_scratch1 by decide), Finset.mem_erase.mpr ⟨fun e => absurd (Proc.devRef_injective _ e) (show (cc1_scratch8 : Ref sig .scVector) ≠ cc1_scratch0 by decide), SparseCore.Cfg.mem_ownRefs_of_owner (p := Proc.scVector (cV L) (jV L)) (b := (Proc.scVector (cV L) (jV L)).devRef cc1_scratch8) rfl⟩⟩⟩⟩⟩⟩⟩⟩)]

end Cert.Proof

end
-- ==== Proof.Tile.lean ====
/-
  The whole body of one vector subcore: from its pieces of the arrays to the pieces it leaves written.
-/
module

public import proofs.«01_k».proof.Proof.Pieces

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

set_option maxHeartbeats 16000000 in
theorem whole (d : Dev nD) (L : grid1.Coords) (O : CellTallies nD τ sig (HIx 1)) (W : Waits sig (HIx 1))
    (X : Buf (Elt F) (lgH.view.loc (thr d L))) (f0 : Buf (Elt F) (lgV.view.loc (thr d L)))
    (f1 : Buf (Elt F) (o1V.view.loc (thr d L))) (f2 : Buf (Elt F) (o2V.view.loc (thr d L))) (f3 : Buf (Elt F) (w1V.view.loc (thr d L))) (f4 : Buf (Elt F) (w2V.view.loc (thr d L)))
    (f5 : Buf (Elt F) (icV.view.loc (thr d L))) (f6 : Buf (Elt F) (lcV.view.loc (thr d L))) (f7 : Buf (Elt F) (itV.view.loc (thr d L))) (f8 : Buf (Elt F) (ltV.view.loc (thr d L)))
    (g1 : Buf (Elt F) (o1H.view.loc (thr d L))) (g2 : Buf (Elt F) (o2H.view.loc (thr d L))) (g3 : Buf (Elt F) (w1H.view.loc (thr d L))) (g4 : Buf (Elt F) (w2H.view.loc (thr d L)))
    (g5 : Buf (Elt F) (ipH.view.loc (thr d L))) (g6 : Buf (Elt F) (ldH.view.loc (thr d L)))
    (_plan : Transfers.BatchOf (thr d L) (SemLoc.dma (sig := sig) cc1_scratch9.sem) 8 (windows := true))
    (_plan2 : Transfers.BatchOf (thr d L) (SemLoc.dma (sig := sig) cc1_scratch10.sem) 4 (windows := true))
    (_plan3 : Transfers.BatchOf (thr d L) (SemLoc.dma (sig := sig) cc1_scratch11.sem) 2 (windows := true)) :
    (iprop(Transfers.MayWaits (thr d L) (none : HIx 1) O
      ∗ ((inW0 L).view.loc (thr d L) ↦[(inW0 L).view.set]{fullShare} X)
      ∗ ((inW1 L).view.loc (thr d L) ↦[(inW1 L).view.set]{fullShare} X)
      ∗ ((inW2 L).view.loc (thr d L) ↦[(inW2 L).view.set]{fullShare} X)
      ∗ ((inW3 L).view.loc (thr d L) ↦[(inW3 L).view.set]{fullShare} X)
      ∗ ((inW4 L).view.loc (thr d L) ↦[(inW4 L).view.set]{fullShare} X)
      ∗ ((inW5 L).view.loc (thr d L) ↦[(inW5 L).view.set]{fullShare} X)
      ∗ ((inW6 L).view.loc (thr d L) ↦[(inW6 L).view.set]{fullShare} X)
      ∗ ((inW7 L).view.loc (thr d L) ↦[(inW7 L).view.set]{fullShare} X)
      ∗ ((o1W L).view.loc (thr d L) ↦[(o1W L).view.set]{fullShare} g1)
      ∗ ((o2W L).view.loc (thr d L) ↦[(o2W L).view.set]{fullShare} g2)
      ∗ ((w1W L).view.loc (thr d L) ↦[(w1W L).view.set]{fullShare} g3)
      ∗ ((w2W L).view.loc (thr d L) ↦[(w2W L).view.set]{fullShare} g4)
      ∗ ((ipW L).view.loc (thr d L) ↦[(ipW L).view.set]{fullShare} g5)
      ∗ ((ldW L).view.loc (thr d L) ↦[(ldW L).view.set]{fullShare} g6)
      ∗ (lgV.view.loc (thr d L) ↦{fullShare} f0)
      ∗ (o1V.view.loc (thr d L) ↦{fullShare} f1)
      ∗ (o2V.view.loc (thr d L) ↦{fullShare} f2)
      ∗ (w1V.view.loc (thr d L) ↦{fullShare} f3)
      ∗ (w2V.view.loc (thr d L) ↦{fullShare} f4)
      ∗ (icV.view.loc (thr d L) ↦{fullShare} f5)
      ∗ (lcV.view.loc (thr d L) ↦{fullShare} f6)
      ∗ (itV.view.loc (thr d L) ↦{fullShare} f7)
      ∗ (ltV.view.loc (thr d L) ↦{fullShare} f8)
      ∗ semVal (thr d L, SemLoc.dma cc1_scratch9.sem) 0
      ∗ semVal (thr d L, SemLoc.dma cc1_scratch10.sem) 0
      ∗ semVal (thr d L, SemLoc.dma cc1_scratch11.sem) 0
      ∗ owes (thr d L) O W) : sProp (MM F))
    ⊢ wp frame (wpE (defs₀ (F := F)) 𝒱₀ (thr d L) none) Set.univ
        (cc1_k L lgH (Memref.isWhole_whole _) o1H (Memref.isWhole_whole _) o2H (Memref.isWhole_whole _) w1H (Memref.isWhole_whole _) w2H (Memref.isWhole_whole _) ipH (Memref.isWhole_whole _) ldH (Memref.isWhole_whole _) lgV (Memref.isWhole_whole _) o1V (Memref.isWhole_whole _) o2V (Memref.isWhole_whole _) w1V (Memref.isWhole_whole _) w2V (Memref.isWhole_whole _) icV (Memref.isWhole_whole _) lcV (Memref.isWhole_whole _) itV (Memref.isWhole_whole _) ltV (Memref.isWhole_whole _) cc1_scratch9 cc1_scratch10 cc1_scratch11)
        fun _ => iprop(((inW0 L).view.loc (thr d L) ↦[(inW0 L).view.set]{fullShare} X)
          ∗ ((inW1 L).view.loc (thr d L) ↦[(inW1 L).view.set]{fullShare} X)
          ∗ ((inW2 L).view.loc (thr d L) ↦[(inW2 L).view.set]{fullShare} X)
          ∗ ((inW3 L).view.loc (thr d L) ↦[(inW3 L).view.set]{fullShare} X)
          ∗ ((inW4 L).view.loc (thr d L) ↦[(inW4 L).view.set]{fullShare} X)
          ∗ ((inW5 L).view.loc (thr d L) ↦[(inW5 L).view.set]{fullShare} X)
          ∗ ((inW6 L).view.loc (thr d L) ↦[(inW6 L).view.set]{fullShare} X)
          ∗ ((inW7 L).view.loc (thr d L) ↦[(inW7 L).view.set]{fullShare} X)
          ∗ ((o1W L).view.loc (thr d L) ↦[(o1W L).view.set]{fullShare} outOf (gI1 (fl X)))
          ∗ ((o2W L).view.loc (thr d L) ↦[(o2W L).view.set]{fullShare} outOf (gI2 (fl X)))
          ∗ ((w1W L).view.loc (thr d L) ↦[(w1W L).view.set]{fullShare} outOf (gW1 (fl X)))
          ∗ ((w2W L).view.loc (thr d L) ↦[(w2W L).view.set]{fullShare} outOf (gW2 (fl X)))
          ∗ ((ipW L).view.loc (thr d L) ↦[(ipW L).view.set]{fullShare} rowOf (gIP (fl X)))
          ∗ ((ldW L).view.loc (thr d L) ↦[(ldW L).view.set]{fullShare} rowOf (gLD (fl X)))
          ∗ (∃ f, lgV.view.loc (thr d L) ↦{fullShare} f)
          ∗ (∃ f, o1V.view.loc (thr d L) ↦{fullShare} f)
          ∗ (∃ f, o2V.view.loc (thr d L) ↦{fullShare} f)
          ∗ (∃ f, w1V.view.loc (thr d L) ↦{fullShare} f)
          ∗ (∃ f, w2V.view.loc (thr d L) ↦{fullShare} f)
          ∗ (∃ f, icV.view.loc (thr d L) ↦{fullShare} f)
          ∗ (∃ f, lcV.view.loc (thr d L) ↦{fullShare} f)
          ∗ (∃ f, itV.view.loc (thr d L) ↦{fullShare} f)
          ∗ (∃ f, ltV.view.loc (thr d L) ↦{fullShare} f)
          ∗ semVal (thr d L, SemLoc.dma cc1_scratch9.sem) 0
          ∗ semVal (thr d L, SemLoc.dma cc1_scratch10.sem) 0
          ∗ semVal (thr d L, SemLoc.dma cc1_scratch11.sem) 0
          ∗ ∃ W', ⌜∀ p ∈ W', p ∈ W ∨ p.2 = none⌝ ∗ owes (thr d L) O W') := by
  have hchk := chk
  rw [cc1_k_eq_skeleton]; unfold cc1_k_skel
  iintro ⟨#Hmw, H0, H1, H2, H3, H4, H5, H6, H7, G1, G2, G3, G4, G5, G6, HL, F1, F2, F3, F4, F5, F6, F7, F8, S1, S2, S3, HO⟩
  sl_exec
  rw [lg_writes L X _ (whole.sl.dma0 d L X) (whole.sl.dma1 d L X) (whole.sl.dma2 d L X) (whole.sl.dma3 d L X) (whole.sl.dma4 d L X) (whole.sl.dma5 d L X) (whole.sl.dma6 d L X) (whole.sl.dma7 d L X) rfl _ rfl _ rfl _ rfl _ rfl _ rfl _ rfl _ rfl _]
  sl_for (inv d L (wid L) (fl X)) $$ [HL F1 F2 F3 F4]
  case region =>
    intro k acc
    exact trip d L (wid L) (fl X) k _ _ _ _ acc
  · unfold inv
    isplitr; · ipureintro; rfl
    isplitl [HL]; · iexact HL
    isplitl [F1]; · iexists _; isplitr; swap; (· iexact F1); ipureintro; exact upTo_zero _ _
    isplitl [F2]; · iexists _; isplitr; swap; (· iexact F2); ipureintro; exact upTo_zero _ _
    isplitl [F3]; · iexists _; isplitr; swap; (· iexact F3); ipureintro; exact upTo_zero _ _
    iexists _; isplitr; swap; (· iexact F4); ipureintro; exact upTo_zero _ _
  iintro %acc HI
  obtain ⟨a0, a1, a2, a3, a4, a5, a6, a7, a8, a9, a10, a11, a12, a13, a14, a15, a16, a17, a18, a19, a20, a21, a22, a23, a24, a25, a26, a27, a28, a29, a30, a31⟩ := acc
  unfold inv
  icases HI with ⟨%hacc, HL, ⟨%f1', %h1, F1⟩, ⟨%f2', %h2, F2⟩, ⟨%f3', %h3, F3⟩, ⟨%f4', %h4, F4⟩⟩
  obtain rfl := upTo_all _ _ h1
  obtain rfl := upTo_all _ _ h2
  obtain rfl := upTo_all _ _ h3
  obtain rfl := upTo_all _ _ h4
  replace hacc : (a0, a1, a2, a3, a4, a5, a6, a7, a8, a9, a10, a11, a12, a13, a14, a15, a16, a17, a18, a19, a20, a21, a22, a23, a24, a25, a26, a27, a28, a29, a30, a31) = carry (vx (fl X) (wid L)) 32 := hacc
  simp only [carry, Prod.mk.injEq] at hacc
  obtain ⟨ha0, ha1, ha2, ha3, ha4, ha5, ha6, ha7, ha8, ha9, ha10, ha11, ha12, ha13, ha14, ha15, ha16, ha17, ha18, ha19, ha20, ha21, ha22, ha23, ha24, ha25, ha26, ha27, ha28, ha29, ha30, ha31⟩ := hacc
  sl_exec
  rw [ic_writes f5 (cI (fl X) (wid L)) ?i0 ?i1 ?i2 ?i3 ?i4 ?i5 ?i6 ?i7 ?i8 ?i9 ?i10 ?i11 ?i12 ?i13 ?i14 ?i15]
  case i0 => exact (show _ = csum a0 15 from rfl).trans (congrArg (fun x => csum x 15) ha0)
  case i1 => exact (show _ = csum a1 15 from rfl).trans (congrArg (fun x => csum x 15) ha1)
  case i2 => exact (show _ = csum a2 15 from rfl).trans (congrArg (fun x => csum x 15) ha2)
  case i3 => exact (show _ = csum a3 15 from rfl).trans (congrArg (fun x => csum x 15) ha3)
  case i4 => exact (show _ = csum a4 15 from rfl).trans (congrArg (fun x => csum x 15) ha4)
  case i5 => exact (show _ = csum a5 15 from rfl).trans (congrArg (fun x => csum x 15) ha5)
  case i6 => exact (show _ = csum a6 15 from rfl).trans (congrArg (fun x => csum x 15) ha6)
  case i7 => exact (show _ = csum a7 15 from rfl).trans (congrArg (fun x => csum x 15) ha7)
  case i8 => exact (show _ = csum a8 15 from rfl).trans (congrArg (fun x => csum x 15) ha8)
  case i9 => exact (show _ = csum a9 15 from rfl).trans (congrArg (fun x => csum x 15) ha9)
  case i10 => exact (show _ = csum a10 15 from rfl).trans (congrArg (fun x => csum x 15) ha10)
  case i11 => exact (show _ = csum a11 15 from rfl).trans (congrArg (fun x => csum x 15) ha11)
  case i12 => exact (show _ = csum a12 15 from rfl).trans (congrArg (fun x => csum x 15) ha12)
  case i13 => exact (show _ = csum a13 15 from rfl).trans (congrArg (fun x => csum x 15) ha13)
  case i14 => exact (show _ = csum a14 15 from rfl).trans (congrArg (fun x => csum x 15) ha14)
  case i15 => exact (show _ = csum a15 15 from rfl).trans (congrArg (fun x => csum x 15) ha15)
  rw [lc_writes f6 (cL (fl X) (wid L)) ?i0 ?i1 ?i2 ?i3 ?i4 ?i5 ?i6 ?i7 ?i8 ?i9 ?i10 ?i11 ?i12 ?i13 ?i14 ?i15]
  case i0 => exact (show _ = csumI a16 from rfl).trans (congrArg csumI ha16)
  case i1 => exact (show _ = csumI a17 from rfl).trans (congrArg csumI ha17)
  case i2 => exact (show _ = csumI a18 from rfl).trans (congrArg csumI ha18)
  case i3 => exact (show _ = csumI a19 from rfl).trans (congrArg csumI ha19)
  case i4 => exact (show _ = csumI a20 from rfl).trans (congrArg csumI ha20)
  case i5 => exact (show _ = csumI a21 from rfl).trans (congrArg csumI ha21)
  case i6 => exact (show _ = csumI a22 from rfl).trans (congrArg csumI ha22)
  case i7 => exact (show _ = csumI a23 from rfl).trans (congrArg csumI ha23)
  case i8 => exact (show _ = csumI a24 from rfl).trans (congrArg csumI ha24)
  case i9 => exact (show _ = csumI a25 from rfl).trans (congrArg csumI ha25)
  case i10 => exact (show _ = csumI a26 from rfl).trans (congrArg csumI ha26)
  case i11 => exact (show _ = csumI a27 from rfl).trans (congrArg csumI ha27)
  case i12 => exact (show _ = csumI a28 from rfl).trans (congrArg csumI ha28)
  case i13 => exact (show _ = csumI a29 from rfl).trans (congrArg csumI ha29)
  case i14 => exact (show _ = csumI a30 from rfl).trans (congrArg csumI ha30)
  case i15 => exact (show _ = csumI a31 from rfl).trans (congrArg csumI ha31)
  iapply (SparseCore.wp_vectorLoadIdx 𝒱₀ (thr d L) none Set.univ (base := icV) (S := Finset.univ) (q := fullShare) (Finset.subset_univ _)) $$ F5
  iintro F5
  sl_exec
  iapply (SparseCore.wp_vectorLoadIdx 𝒱₀ (thr d L) none Set.univ (base := lcV) (S := Finset.univ) (q := fullShare) (Finset.subset_univ _)) $$ F6
  iintro F6
  sl_exec
  have e6 : whole.sl.dma6_1 d L X f7 hchk = fun x : S16.Idx => gIP (fl X) (wid L) (x 0).val := by
    unfold whole.sl.dma6_1
    rw [read_full itV.view f7 _ _]
    exact ic_get (cI (fl X) (wid L)) _ rfl _
  have e7 : whole.sl.dma7_1 d L X f8 hchk = fun x : S16.Idx => gLD (fl X) (wid L) (x 0).val := by
    unfold whole.sl.dma7_1 whole.sl.F8_1
    rw [read_full ltV.view f8 _ _]
    exact lc_get (cL (fl X) (wid L)) _ rfl _
  have e2 : whole.sl.dma2_1 d L X = rows (gI1 (fl X) (wid L)) := rfl
  have e3 : whole.sl.dma3_1 d L X = rows (gI2 (fl X) (wid L)) := rfl
  have e4 : whole.sl.dma4_1 d L X = rows (gW1 (fl X) (wid L)) := rfl
  have e5 : whole.sl.dma5_1 d L X = rows (gW2 (fl X) (wid L)) := rfl
  rw [e2, e3, e4, e5, e6, e7]
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G1]; · ihave G := (Entails.of_eq (pointsTo_congr (ℓ := (o1W L).view.loc (thr d L)) (q := fullShare) (o1_out L g1 (gI1 (fl X))))) $$ G1; iexact G
  isplitl [G2]; · ihave G := (Entails.of_eq (pointsTo_congr (ℓ := (o2W L).view.loc (thr d L)) (q := fullShare) (o2_out L g2 (gI2 (fl X))))) $$ G2; iexact G
  isplitl [G3]; · ihave G := (Entails.of_eq (pointsTo_congr (ℓ := (w1W L).view.loc (thr d L)) (q := fullShare) (w1_out L g3 (gW1 (fl X))))) $$ G3; iexact G
  isplitl [G4]; · ihave G := (Entails.of_eq (pointsTo_congr (ℓ := (w2W L).view.loc (thr d L)) (q := fullShare) (w2_out L g4 (gW2 (fl X))))) $$ G4; iexact G
  isplitl [G5]; · ihave G := (Entails.of_eq (pointsTo_congr (ℓ := (ipW L).view.loc (thr d L)) (q := fullShare) (ip_out L g5 (gIP (fl X))))) $$ G5; iexact G
  isplitl [G6]; · ihave G := (Entails.of_eq (pointsTo_congr (ℓ := (ldW L).view.loc (thr d L)) (q := fullShare) (ld_out L g6 (gLD (fl X))))) $$ G6; iexact G
  isplitl [HL]; · iexists _; iexact HL
  isplitl [F1]; · iexists _; iexact F1
  isplitl [F2]; · iexists _; iexact F2
  isplitl [F3]; · iexists _; iexact F3
  isplitl [F4]; · iexists _; iexact F4
  isplitl [F5]; · iexists _; iexact F5
  isplitl [F6]; · iexists _; iexact F6
  isplitl [F7]; · iexists _; iexact F7
  isplitl [F8]; · iexists _; iexact F8
  isplitl [S1]; · iexact S1
  isplitl [S2]; · iexact S2
  isplitl [S3]; · iexact S3
  iexists _; isplitr; swap; (· iexact HO)
  ipureintro
  intro p hp
  simp only [Finset.mem_insert] at hp
  rcases hp with rfl | rfl | rfl | rfl | rfl | rfl | rfl | rfl | rfl | rfl | rfl | rfl | rfl | rfl | hp
  · exact .inr rfl
  · exact .inr rfl
  · exact .inr rfl
  · exact .inr rfl
  · exact .inr rfl
  · exact .inr rfl
  · exact .inr rfl
  · exact .inr rfl
  · exact .inr rfl
  · exact .inr rfl
  · exact .inr rfl
  · exact .inr rfl
  · exact .inr rfl
  · exact .inr rfl
  exact .inl hp

end Cert.Proof

end
-- ==== Proof.CallTile.lean ====
/-
  The obligation of the SparseCore call: from its pieces, a subcore leaves them written as stated.
-/
module

public import proofs.«01_k».proof.Proof.CallRes
public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

variable (m : (ℓ : Loc nD τ sig) → Buf (Elt F) ℓ) (X : Dev nD → S262144.Idx → F .f32)

/-- The task of the subcore at `(c, i)`, from what the call hands it to what it hands back. -/
theorem tile_body (d : Dev nD) (c : Fin 2) (i : Fin 16) (hF : (K (F := F)).Facts) (O : CellTallies nD τ sig (HIx 1)) (W : Waits sig (HIx 1)) (hO : ∀ g, O g none = 0) :
    iprop(levAts (K (F := F)).L (K (F := F)).lev ∗ emp ∗ goR m X d c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc1_k (coordsV c i) lgH (Memref.isWhole_whole _) o1H (Memref.isWhole_whole _) o2H (Memref.isWhole_whole _) w1H (Memref.isWhole_whole _) w2H (Memref.isWhole_whole _) ipH (Memref.isWhole_whole _) ldH (Memref.isWhole_whole _) lgV (Memref.isWhole_whole _) o1V (Memref.isWhole_whole _) o2V (Memref.isWhole_whole _) w1V (Memref.isWhole_whole _) w2V (Memref.isWhole_whole _) icV (Memref.isWhole_whole _) lcV (Memref.isWhole_whole _) itV (Memref.isWhole_whole _) ltV (Memref.isWhole_whole _) cc1_scratch9 cc1_scratch10 cc1_scratch11)
          fun _ => iprop(tdR X d c i
            ∗ scopedBufs (V d (cV (coordsV c i)) (jV (coordsV c i))) ∗ scopedSems0 (V d (cV (coordsV c i)) (jV (coordsV c i)))
            ∗ ∃ W', ⌜∀ p ∈ W', p ∈ W ∨ p.2 = none ∨ p.2 = some (0 : Fin 1)⌝ ∗ owes (V d (cV (coordsV c i)) (jV (coordsV c i))) O W') := by
  generalize hL : coordsV c i = L
  unfold goR tdR
  rw [hL, (K (F := F)).scopedBufs_V hF d (cV L) (jV L), SparseCore.Cfg.scopedSems0_V (Val := Elt F) d (cV L) (jV L), ownSems0_V, ownBufs_V]
  unfold inR outR
  iintro ⟨#Hlv, -, ⟨⟨H0, H1, H2, H3, H4, H5, H6, H7⟩, ⟨G1, G2, G3, G4, G5, G6⟩⟩, ⟨⟨%f0, F0⟩, ⟨%f1, F1⟩, ⟨%f2, F2⟩, ⟨%f3, F3⟩, ⟨%f4, F4⟩, ⟨%f5, F5⟩, ⟨%f6, F6⟩, ⟨%f7, F7⟩, ⟨%f8, F8⟩, Hbufs⟩, ⟨S1, S2, S3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame (wpE (defs₀ (F := F)) 𝒱₀ (V d (cV L) (jV L)) none) Set.univ)
  isplitl [Hmw H0 H1 H2 H3 H4 H5 H6 H7 G1 G2 G3 G4 G5 G6 F0 F1 F2 F3 F4 F5 F6 F7 F8 S1 S2 S3 HO]
  · iapply (whole d L O W (X d) f0 f1 f2 f3 f4 f5 f6 f7 f8 (m ((SparseCore.T d).loc main_v3_0)) (m ((SparseCore.T d).loc main_v3_1)) (m ((SparseCore.T d).loc main_v3_2)) (m ((SparseCore.T d).loc main_v3_3)) (m ((SparseCore.T d).loc main_v3_4)) (m ((SparseCore.T d).loc main_v3_5)) trivial trivial trivial)
    isplitl [Hmw]; · iexact Hmw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G1]; · iexact G1
    isplitl [G2]; · iexact G2
    isplitl [G3]; · iexact G3
    isplitl [G4]; · iexact G4
    isplitl [G5]; · iexact G5
    isplitl [G6]; · iexact G6
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [S1]; · iexact S1
    isplitl [S2]; · iexact S2
    isplitl [S3]; · iexact S3
    iexact HO
  iintro %_ ⟨H0, H1, H2, H3, H4, H5, H6, H7, G1, G2, G3, G4, G5, G6, F0, F1, F2, F3, F4, F5, F6, F7, F8, S1, S2, S3, %W', %hW', HO⟩
  isplitl [H0 H1 H2 H3 H4 H5 H6 H7 G1 G2 G3 G4 G5 G6]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [G1]; · iexact G1
    isplitl [G2]; · iexact G2
    isplitl [G3]; · iexact G3
    isplitl [G4]; · iexact G4
    isplitl [G5]; · iexact G5
    iexact G6
  isplitl [F0 F1 F2 F3 F4 F5 F6 F7 F8 Hbufs]
  · isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    iexact Hbufs
  isplitl [S1 S2 S3 Hsems]
  · isplitl [S1]; · iexact S1
    isplitl [S2]; · iexact S2
    isplitl [S3]; · iexact S3
    iexact Hsems
  iexists W'; isplitr; swap; (· iexact HO)
  ipureintro
  intro p hp
  rcases hW' p hp with h | h
  · exact .inl h
  · exact .inr (.inl h)

theorem defs₀_vector (c : Fin τ.nSC) (s : Fin τ.nSub) :
    defs₀ (F := F) (.scVector c s) 1 ()
      = SparseCore.onTile hcore1 hsub1 (fun c s => cc1_k (coordsV c s) lgH (Memref.isWhole_whole _) o1H (Memref.isWhole_whole _) o2H (Memref.isWhole_whole _) w1H (Memref.isWhole_whole _) w2H (Memref.isWhole_whole _) ipH (Memref.isWhole_whole _) ldH (Memref.isWhole_whole _) lgV (Memref.isWhole_whole _) o1V (Memref.isWhole_whole _) o2V (Memref.isWhole_whole _) w1V (Memref.isWhole_whole _) w2V (Memref.isWhole_whole _) icV (Memref.isWhole_whole _) lcV (Memref.isWhole_whole _) itV (Memref.isWhole_whole _) ltV (Memref.isWhole_whole _) cc1_scratch9 cc1_scratch10 cc1_scratch11) ⟨⟩ c s := rfl

theorem tileObl (hF : (K (F := F)).Facts) : (K (F := F)).TileObl (D (F := F)) 𝒱 (P m X) v₀ 0 := by
  intro d c i O W hO _ _
  simp only [show (P m X).ox = fun _ _ => 0 from rfl, show (P m X).x = fun _ _ => iprop(emp) from rfl, add_zero, P_go, P_td]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m X d (Fin.cast nCore_zero c) (Fin.cast nSub_zero i) hF O W hO

end Cert.Proof

end
-- ==== Proof.LogitsBody.lean ====
/-
  The block of logits: what the first TensorCore call leaves of one grid point.
-/
module

public import proofs.«01_k».proof.Proof.Setup
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

/-- The logits of 1024 tokens against 16 experts, laid out as the kernel stores them: expert `8 * a + k`, token `128 * b + j` at `(a, b, k, j)`. -/
def blk (w : S16x2048.Idx → F .f32) (x : S1024x2048.Idx → F .f32) (b : S16x1.Idx → F .f32) : S2x8x8x128.Idx → F .f32 := fun y =>
  k0_pay6 w x b fun | 0 => ⟨8 * (y 0).val + (y 2).val, by have h0 : (y 0).val < 2 := (y 0).isLt; have h2 : (y 2).val < 8 := (y 2).isLt; show _ < 16; omega⟩
                    | 1 => ⟨128 * (y 1).val + (y 3).val, by have h0 : (y 1).val < 8 := (y 1).isLt; have h2 : (y 3).val < 128 := (y 3).isLt; show _ < 1024; omega⟩

theorem readAt_full {κ : Kind} {sp : Space} {n k : ℕ} (v : View sig κ sp ⟨2, ![n, k]⟩ .f32) (f : v.ty.Contents (Elt F))
    (b : ∀ a, ![0, 0] a + (⟨2, ![n, k]⟩ : Shape).size a ≤ (⟨2, ![n, k]⟩ : Shape).size a) :
    v.readAt (Elt F) (Rect.unit (s := ⟨2, ![n, k]⟩) ![0, 0] (⟨2, ![n, k]⟩ : Shape).size b).toLoadRect f = v.read (Elt F) f := by
  funext x
  refine congrArg (v.read (Elt F) f) (funext fun a => Fin.ext ?_)
  match a with
  | 0 => show 0 + 1 * (x 0).val = (x 0).val; omega
  | 1 => show 0 + 1 * (x 1).val = (x 1).val; omega

/-- One stored piece: a block of 8 rows and 128 columns of the logits, read at an index of the piece. -/
theorem piece_apply (p : S16x1024.Idx → F .f32) (r o : ℕ) (h1 : S16x1024.Slices ![r, 0] S8x1024) (h2 : S8x1024.Slices ![0, o] S8x128)
    (h3 : S8x128.ShapeCasts S1x1x8x128) (x : S1x1x8x128.Idx) (k : S16x1024.Idx) (k0 : (k 0).val = r + (x 2).val) (k1 : (k 1).val = o + (x 3).val) :
    shapeCast S1x1x8x128 (extractStridedSlice S8x128 ![0, o] (extractStridedSlice S8x1024 ![r, 0] p h1) h2) h3 x = p k := by
  have hx0 : (x 0).val < 1 := (x 0).isLt
  have hx1 : (x 1).val < 1 := (x 1).isLt
  have hx2 : (x 2).val < 8 := (x 2).isLt
  have hx3 : (x 3).val < 128 := (x 3).isLt
  have ho : o + 128 ≤ 1024 := h2.2 1
  let j : S8x128.Idx := fun | 0 => ⟨(x 2).val, hx2⟩ | 1 => ⟨(x 3).val, hx3⟩
  let i : S8x1024.Idx := fun | 0 => ⟨(x 2).val, hx2⟩ | 1 => ⟨o + (x 3).val, by show _ < 1024; omega⟩
  refine (shapeCast_apply _ h3 x j ?_).trans ((extractStridedSlice_apply _ _ h2 j i ?_).trans (extractStridedSlice_apply _ _ h1 i k ?_))
  · rw [Shape.rowMajor_val_two, Shape.rowMajor_val_four]
    show (x 2).val * 128 + (x 3).val = (((x 0).val * 1 + (x 1).val) * 8 + (x 2).val) * 128 + (x 3).val
    omega
  · intro a
    match a with
    | 0 => show (x 2).val = 0 + (x 2).val; omega
    | 1 => rfl
  · intro a
    match a with
    | 0 => exact k0
    | 1 => show (k 1).val = 0 + (o + (x 3).val); omega

set_option maxHeartbeats 1000000 in
theorem blk_writes (v : View sig .tc .vmem S2x8x8x128 .f32) (f : v.ty.Contents (Elt F)) (w : S16x2048.Idx → F .f32) (x : S1024x2048.Idx → F .f32) (b : S16x1.Idx → F .f32)
    {p00 : S1x1x8x128.Idx → F .f32} {b00 : ∀ q, ![0, 0, 0, 0] q + S1x1x8x128.size q ≤ S2x8x8x128.size q}
    {p01 : S1x1x8x128.Idx → F .f32} {b01 : ∀ q, ![0, 1, 0, 0] q + S1x1x8x128.size q ≤ S2x8x8x128.size q}
    {p02 : S1x1x8x128.Idx → F .f32} {b02 : ∀ q, ![0, 2, 0, 0] q + S1x1x8x128.size q ≤ S2x8x8x128.size q}
    {p03 : S1x1x8x128.Idx → F .f32} {b03 : ∀ q, ![0, 3, 0, 0] q + S1x1x8x128.size q ≤ S2x8x8x128.size q}
    {p04 : S1x1x8x128.Idx → F .f32} {b04 : ∀ q, ![0, 4, 0, 0] q + S1x1x8x128.size q ≤ S2x8x8x128.size q}
    {p05 : S1x1x8x128.Idx → F .f32} {b05 : ∀ q, ![0, 5, 0, 0] q + S1x1x8x128.size q ≤ S2x8x8x128.size q}
    {p06 : S1x1x8x128.Idx → F .f32} {b06 : ∀ q, ![0, 6, 0, 0] q + S1x1x8x128.size q ≤ S2x8x8x128.size q}
    {p07 : S1x1x8x128.Idx → F .f32} {b07 : ∀ q, ![0, 7, 0, 0] q + S1x1x8x128.size q ≤ S2x8x8x128.size q}
    {p10 : S1x1x8x128.Idx → F .f32} {b10 : ∀ q, ![1, 0, 0, 0] q + S1x1x8x128.size q ≤ S2x8x8x128.size q}
    {p11 : S1x1x8x128.Idx → F .f32} {b11 : ∀ q, ![1, 1, 0, 0] q + S1x1x8x128.size q ≤ S2x8x8x128.size q}
    {p12 : S1x1x8x128.Idx → F .f32} {b12 : ∀ q, ![1, 2, 0, 0] q + S1x1x8x128.size q ≤ S2x8x8x128.size q}
    {p13 : S1x1x8x128.Idx → F .f32} {b13 : ∀ q, ![1, 3, 0, 0] q + S1x1x8x128.size q ≤ S2x8x8x128.size q}
    {p14 : S1x1x8x128.Idx → F .f32} {b14 : ∀ q, ![1, 4, 0, 0] q + S1x1x8x128.size q ≤ S2x8x8x128.size q}
    {p15 : S1x1x8x128.Idx → F .f32} {b15 : ∀ q, ![1, 5, 0, 0] q + S1x1x8x128.size q ≤ S2x8x8x128.size q}
    {p16 : S1x1x8x128.Idx → F .f32} {b16 : ∀ q, ![1, 6, 0, 0] q + S1x1x8x128.size q ≤ S2x8x8x128.size q}
    {p17 : S1x1x8x128.Idx → F .f32} {b17 : ∀ q, ![1, 7, 0, 0] q + S1x1x8x128.size q ≤ S2x8x8x128.size q}
    (h00 : p00 = shapeCast S1x1x8x128 (extractStridedSlice S8x128 ![0, 0] (extractStridedSlice S8x1024 ![0, 0] (k0_pay6 w x b) slices_S16x1024_o0_0_S8x1024) slices_S8x1024_o0_0_S8x128) shapeCasts_S8x128_S1x1x8x128)
    (h01 : p01 = shapeCast S1x1x8x128 (extractStridedSlice S8x128 ![0, 128] (extractStridedSlice S8x1024 ![0, 0] (k0_pay6 w x b) slices_S16x1024_o0_0_S8x1024) slices_S8x1024_o0_128_S8x128) shapeCasts_S8x128_S1x1x8x128)
    (h02 : p02 = shapeCast S1x1x8x128 (extractStridedSlice S8x128 ![0, 256] (extractStridedSlice S8x1024 ![0, 0] (k0_pay6 w x b) slices_S16x1024_o0_0_S8x1024) slices_S8x1024_o0_256_S8x128) shapeCasts_S8x128_S1x1x8x128)
    (h03 : p03 = shapeCast S1x1x8x128 (extractStridedSlice S8x128 ![0, 384] (extractStridedSlice S8x1024 ![0, 0] (k0_pay6 w x b) slices_S16x1024_o0_0_S8x1024) slices_S8x1024_o0_384_S8x128) shapeCasts_S8x128_S1x1x8x128)
    (h04 : p04 = shapeCast S1x1x8x128 (extractStridedSlice S8x128 ![0, 512] (extractStridedSlice S8x1024 ![0, 0] (k0_pay6 w x b) slices_S16x1024_o0_0_S8x1024) slices_S8x1024_o0_512_S8x128) shapeCasts_S8x128_S1x1x8x128)
    (h05 : p05 = shapeCast S1x1x8x128 (extractStridedSlice S8x128 ![0, 640] (extractStridedSlice S8x1024 ![0, 0] (k0_pay6 w x b) slices_S16x1024_o0_0_S8x1024) slices_S8x1024_o0_640_S8x128) shapeCasts_S8x128_S1x1x8x128)
    (h06 : p06 = shapeCast S1x1x8x128 (extractStridedSlice S8x128 ![0, 768] (extractStridedSlice S8x1024 ![0, 0] (k0_pay6 w x b) slices_S16x1024_o0_0_S8x1024) slices_S8x1024_o0_768_S8x128) shapeCasts_S8x128_S1x1x8x128)
    (h07 : p07 = shapeCast S1x1x8x128 (extractStridedSlice S8x128 ![0, 896] (extractStridedSlice S8x1024 ![0, 0] (k0_pay6 w x b) slices_S16x1024_o0_0_S8x1024) slices_S8x1024_o0_896_S8x128) shapeCasts_S8x128_S1x1x8x128)
    (h10 : p10 = shapeCast S1x1x8x128 (extractStridedSlice S8x128 ![0, 0] (extractStridedSlice S8x1024 ![8, 0] (k0_pay6 w x b) slices_S16x1024_o8_0_S8x1024) slices_S8x1024_o0_0_S8x128) shapeCasts_S8x128_S1x1x8x128)
    (h11 : p11 = shapeCast S1x1x8x128 (extractStridedSlice S8x128 ![0, 128] (extractStridedSlice S8x1024 ![8, 0] (k0_pay6 w x b) slices_S16x1024_o8_0_S8x1024) slices_S8x1024_o0_128_S8x128) shapeCasts_S8x128_S1x1x8x128)
    (h12 : p12 = shapeCast S1x1x8x128 (extractStridedSlice S8x128 ![0, 256] (extractStridedSlice S8x1024 ![8, 0] (k0_pay6 w x b) slices_S16x1024_o8_0_S8x1024) slices_S8x1024_o0_256_S8x128) shapeCasts_S8x128_S1x1x8x128)
    (h13 : p13 = shapeCast S1x1x8x128 (extractStridedSlice S8x128 ![0, 384] (extractStridedSlice S8x1024 ![8, 0] (k0_pay6 w x b) slices_S16x1024_o8_0_S8x1024) slices_S8x1024_o0_384_S8x128) shapeCasts_S8x128_S1x1x8x128)
    (h14 : p14 = shapeCast S1x1x8x128 (extractStridedSlice S8x128 ![0, 512] (extractStridedSlice S8x1024 ![8, 0] (k0_pay6 w x b) slices_S16x1024_o8_0_S8x1024) slices_S8x1024_o0_512_S8x128) shapeCasts_S8x128_S1x1x8x128)
    (h15 : p15 = shapeCast S1x1x8x128 (extractStridedSlice S8x128 ![0, 640] (extractStridedSlice S8x1024 ![8, 0] (k0_pay6 w x b) slices_S16x1024_o8_0_S8x1024) slices_S8x1024_o0_640_S8x128) shapeCasts_S8x128_S1x1x8x128)
    (h16 : p16 = shapeCast S1x1x8x128 (extractStridedSlice S8x128 ![0, 768] (extractStridedSlice S8x1024 ![8, 0] (k0_pay6 w x b) slices_S16x1024_o8_0_S8x1024) slices_S8x1024_o0_768_S8x128) shapeCasts_S8x128_S1x1x8x128)
    (h17 : p17 = shapeCast S1x1x8x128 (extractStridedSlice S8x128 ![0, 896] (extractStridedSlice S8x1024 ![8, 0] (k0_pay6 w x b) slices_S16x1024_o8_0_S8x1024) slices_S8x1024_o0_896_S8x128) shapeCasts_S8x128_S1x1x8x128) :
    v.read (Elt F) (v.writes (Elt F) f [⟨Rect.unit ![1, 7, 0, 0] S1x1x8x128.size b17, p17⟩, ⟨Rect.unit ![1, 6, 0, 0] S1x1x8x128.size b16, p16⟩, ⟨Rect.unit ![1, 5, 0, 0] S1x1x8x128.size b15, p15⟩, ⟨Rect.unit ![1, 4, 0, 0] S1x1x8x128.size b14, p14⟩, ⟨Rect.unit ![1, 3, 0, 0] S1x1x8x128.size b13, p13⟩, ⟨Rect.unit ![1, 2, 0, 0] S1x1x8x128.size b12, p12⟩, ⟨Rect.unit ![1, 1, 0, 0] S1x1x8x128.size b11, p11⟩, ⟨Rect.unit ![1, 0, 0, 0] S1x1x8x128.size b10, p10⟩, ⟨Rect.unit ![0, 7, 0, 0] S1x1x8x128.size b07, p07⟩, ⟨Rect.unit ![0, 6, 0, 0] S1x1x8x128.size b06, p06⟩, ⟨Rect.unit ![0, 5, 0, 0] S1x1x8x128.size b05, p05⟩, ⟨Rect.unit ![0, 4, 0, 0] S1x1x8x128.size b04, p04⟩, ⟨Rect.unit ![0, 3, 0, 0] S1x1x8x128.size b03, p03⟩, ⟨Rect.unit ![0, 2, 0, 0] S1x1x8x128.size b02, p02⟩, ⟨Rect.unit ![0, 1, 0, 0] S1x1x8x128.size b01, p01⟩, ⟨Rect.unit ![0, 0, 0, 0] S1x1x8x128.size b00, p00⟩]) = blk w x b := by
  funext y
  refine View.read_writes_apply_of_pieces (Val := Elt F) (v := v) (f := f) (G := blk w x b) _ ?_ y ?_
  · simp only [List.forall_mem_cons]
    refine ⟨fun z => (congrFun h17 z).trans (piece_apply _ _ _ _ _ _ z _ ?g17 ?j17), fun z => (congrFun h16 z).trans (piece_apply _ _ _ _ _ _ z _ ?g16 ?j16), fun z => (congrFun h15 z).trans (piece_apply _ _ _ _ _ _ z _ ?g15 ?j15), fun z => (congrFun h14 z).trans (piece_apply _ _ _ _ _ _ z _ ?g14 ?j14), fun z => (congrFun h13 z).trans (piece_apply _ _ _ _ _ _ z _ ?g13 ?j13), fun z => (congrFun h12 z).trans (piece_apply _ _ _ _ _ _ z _ ?g12 ?j12), fun z => (congrFun h11 z).trans (piece_apply _ _ _ _ _ _ z _ ?g11 ?j11), fun z => (congrFun h10 z).trans (piece_apply _ _ _ _ _ _ z _ ?g10 ?j10), fun z => (congrFun h07 z).trans (piece_apply _ _ _ _ _ _ z _ ?g07 ?j07), fun z => (congrFun h06 z).trans (piece_apply _ _ _ _ _ _ z _ ?g06 ?j06), fun z => (congrFun h05 z).trans (piece_apply _ _ _ _ _ _ z _ ?g05 ?j05), fun z => (congrFun h04 z).trans (piece_apply _ _ _ _ _ _ z _ ?g04 ?j04), fun z => (congrFun h03 z).trans (piece_apply _ _ _ _ _ _ z _ ?g03 ?j03), fun z => (congrFun h02 z).trans (piece_apply _ _ _ _ _ _ z _ ?g02 ?j02), fun z => (congrFun h01 z).trans (piece_apply _ _ _ _ _ _ z _ ?g01 ?j01), fun z => (congrFun h00 z).trans (piece_apply _ _ _ _ _ _ z _ ?g00 ?j00), fun _ h => absurd h List.not_mem_nil⟩
    case g17 => have hz0 : (z 0).val < 1 := (z 0).isLt; show 8 * (1 + 1 * (z 0).val) + (0 + 1 * (z 2).val) = 8 + (z 2).val; omega
    case j17 => have hz1 : (z 1).val < 1 := (z 1).isLt; show 128 * (7 + 1 * (z 1).val) + (0 + 1 * (z 3).val) = 896 + (z 3).val; omega
    case g16 => have hz0 : (z 0).val < 1 := (z 0).isLt; show 8 * (1 + 1 * (z 0).val) + (0 + 1 * (z 2).val) = 8 + (z 2).val; omega
    case j16 => have hz1 : (z 1).val < 1 := (z 1).isLt; show 128 * (6 + 1 * (z 1).val) + (0 + 1 * (z 3).val) = 768 + (z 3).val; omega
    case g15 => have hz0 : (z 0).val < 1 := (z 0).isLt; show 8 * (1 + 1 * (z 0).val) + (0 + 1 * (z 2).val) = 8 + (z 2).val; omega
    case j15 => have hz1 : (z 1).val < 1 := (z 1).isLt; show 128 * (5 + 1 * (z 1).val) + (0 + 1 * (z 3).val) = 640 + (z 3).val; omega
    case g14 => have hz0 : (z 0).val < 1 := (z 0).isLt; show 8 * (1 + 1 * (z 0).val) + (0 + 1 * (z 2).val) = 8 + (z 2).val; omega
    case j14 => have hz1 : (z 1).val < 1 := (z 1).isLt; show 128 * (4 + 1 * (z 1).val) + (0 + 1 * (z 3).val) = 512 + (z 3).val; omega
    case g13 => have hz0 : (z 0).val < 1 := (z 0).isLt; show 8 * (1 + 1 * (z 0).val) + (0 + 1 * (z 2).val) = 8 + (z 2).val; omega
    case j13 => have hz1 : (z 1).val < 1 := (z 1).isLt; show 128 * (3 + 1 * (z 1).val) + (0 + 1 * (z 3).val) = 384 + (z 3).val; omega
    case g12 => have hz0 : (z 0).val < 1 := (z 0).isLt; show 8 * (1 + 1 * (z 0).val) + (0 + 1 * (z 2).val) = 8 + (z 2).val; omega
    case j12 => have hz1 : (z 1).val < 1 := (z 1).isLt; show 128 * (2 + 1 * (z 1).val) + (0 + 1 * (z 3).val) = 256 + (z 3).val; omega
    case g11 => have hz0 : (z 0).val < 1 := (z 0).isLt; show 8 * (1 + 1 * (z 0).val) + (0 + 1 * (z 2).val) = 8 + (z 2).val; omega
    case j11 => have hz1 : (z 1).val < 1 := (z 1).isLt; show 128 * (1 + 1 * (z 1).val) + (0 + 1 * (z 3).val) = 128 + (z 3).val; omega
    case g10 => have hz0 : (z 0).val < 1 := (z 0).isLt; show 8 * (1 + 1 * (z 0).val) + (0 + 1 * (z 2).val) = 8 + (z 2).val; omega
    case j10 => have hz1 : (z 1).val < 1 := (z 1).isLt; show 128 * (0 + 1 * (z 1).val) + (0 + 1 * (z 3).val) = 0 + (z 3).val; omega
    case g07 => have hz0 : (z 0).val < 1 := (z 0).isLt; show 8 * (0 + 1 * (z 0).val) + (0 + 1 * (z 2).val) = 0 + (z 2).val; omega
    case j07 => have hz1 : (z 1).val < 1 := (z 1).isLt; show 128 * (7 + 1 * (z 1).val) + (0 + 1 * (z 3).val) = 896 + (z 3).val; omega
    case g06 => have hz0 : (z 0).val < 1 := (z 0).isLt; show 8 * (0 + 1 * (z 0).val) + (0 + 1 * (z 2).val) = 0 + (z 2).val; omega
    case j06 => have hz1 : (z 1).val < 1 := (z 1).isLt; show 128 * (6 + 1 * (z 1).val) + (0 + 1 * (z 3).val) = 768 + (z 3).val; omega
    case g05 => have hz0 : (z 0).val < 1 := (z 0).isLt; show 8 * (0 + 1 * (z 0).val) + (0 + 1 * (z 2).val) = 0 + (z 2).val; omega
    case j05 => have hz1 : (z 1).val < 1 := (z 1).isLt; show 128 * (5 + 1 * (z 1).val) + (0 + 1 * (z 3).val) = 640 + (z 3).val; omega
    case g04 => have hz0 : (z 0).val < 1 := (z 0).isLt; show 8 * (0 + 1 * (z 0).val) + (0 + 1 * (z 2).val) = 0 + (z 2).val; omega
    case j04 => have hz1 : (z 1).val < 1 := (z 1).isLt; show 128 * (4 + 1 * (z 1).val) + (0 + 1 * (z 3).val) = 512 + (z 3).val; omega
    case g03 => have hz0 : (z 0).val < 1 := (z 0).isLt; show 8 * (0 + 1 * (z 0).val) + (0 + 1 * (z 2).val) = 0 + (z 2).val; omega
    case j03 => have hz1 : (z 1).val < 1 := (z 1).isLt; show 128 * (3 + 1 * (z 1).val) + (0 + 1 * (z 3).val) = 384 + (z 3).val; omega
    case g02 => have hz0 : (z 0).val < 1 := (z 0).isLt; show 8 * (0 + 1 * (z 0).val) + (0 + 1 * (z 2).val) = 0 + (z 2).val; omega
    case j02 => have hz1 : (z 1).val < 1 := (z 1).isLt; show 128 * (2 + 1 * (z 1).val) + (0 + 1 * (z 3).val) = 256 + (z 3).val; omega
    case g01 => have hz0 : (z 0).val < 1 := (z 0).isLt; show 8 * (0 + 1 * (z 0).val) + (0 + 1 * (z 2).val) = 0 + (z 2).val; omega
    case j01 => have hz1 : (z 1).val < 1 := (z 1).isLt; show 128 * (1 + 1 * (z 1).val) + (0 + 1 * (z 3).val) = 128 + (z 3).val; omega
    case g00 => have hz0 : (z 0).val < 1 := (z 0).isLt; show 8 * (0 + 1 * (z 0).val) + (0 + 1 * (z 2).val) = 0 + (z 2).val; omega
    case j00 => have hz1 : (z 1).val < 1 := (z 1).isLt; show 128 * (0 + 1 * (z 1).val) + (0 + 1 * (z 3).val) = 0 + (z 3).val; omega
  · have hy0 : (y 0).val < 2 := (y 0).isLt
    have hy1 : (y 1).val < 8 := (y 1).isLt
    have hy2 : (y 2).val < 8 := (y 2).isLt
    have hy3 : (y 3).val < 128 := (y 3).isLt
    have key : ∀ n k, (y 0).val = n → (y 1).val = k → (∀ a : Fin 4, ![n, k, 0, 0] a ≤ (y a).val ∧ (y a).val < ![n, k, 0, 0] a + S1x1x8x128.size a) := by
      intro n k e0 e1 a
      match a with
      | 0 => exact ⟨e0.ge, by show (y 0).val < n + 1; omega⟩
      | 1 => exact ⟨e1.ge, by show (y 1).val < k + 1; omega⟩
      | 2 => exact ⟨Nat.zero_le _, by show (y 2).val < 0 + 8; omega⟩
      | 3 => exact ⟨Nat.zero_le _, by show (y 3).val < 0 + 128; omega⟩
    simp only [List.exists_mem_cons_iff, Rect.mem_set_unit]
    have e0 : (y 0).val = 0 ∨ (y 0).val = 1 := by omega
    have e1 : (y 1).val = 0 ∨ (y 1).val = 1 ∨ (y 1).val = 2 ∨ (y 1).val = 3 ∨ (y 1).val = 4 ∨ (y 1).val = 5 ∨ (y 1).val = 6 ∨ (y 1).val = 7 := by omega
    rcases e0 with e0 | e0
    · rcases e1 with e1 | e1 | e1 | e1 | e1 | e1 | e1 | e1
      · exact .inr (.inr (.inr (.inr (.inr (.inr (.inr (.inr (.inr (.inr (.inr (.inr (.inr (.inr (.inr (.inl (key _ _ e0 e1))))))))))))))))
      · exact .inr (.inr (.inr (.inr (.inr (.inr (.inr (.inr (.inr (.inr (.inr (.inr (.inr (.inr (.inl (key _ _ e0 e1)))))))))))))))
      · exact .inr (.inr (.inr (.inr (.inr (.inr (.inr (.inr (.inr (.inr (.inr (.inr (.inr (.inl (key _ _ e0 e1))))))))))))))
      · exact .inr (.inr (.inr (.inr (.inr (.inr (.inr (.inr (.inr (.inr (.inr (.inr (.inl (key _ _ e0 e1)))))))))))))
      · exact .inr (.inr (.inr (.inr (.inr (.inr (.inr (.inr (.inr (.inr (.inr (.inl (key _ _ e0 e1))))))))))))
      · exact .inr (.inr (.inr (.inr (.inr (.inr (.inr (.inr (.inr (.inr (.inl (key _ _ e0 e1)))))))))))
      · exact .inr (.inr (.inr (.inr (.inr (.inr (.inr (.inr (.inr (.inl (key _ _ e0 e1))))))))))
      · exact .inr (.inr (.inr (.inr (.inr (.inr (.inr (.inr (.inl (key _ _ e0 e1)))))))))
    · rcases e1 with e1 | e1 | e1 | e1 | e1 | e1 | e1 | e1
      · exact .inr (.inr (.inr (.inr (.inr (.inr (.inr (.inl (key _ _ e0 e1))))))))
      · exact .inr (.inr (.inr (.inr (.inr (.inr (.inl (key _ _ e0 e1)))))))
      · exact .inr (.inr (.inr (.inr (.inr (.inl (key _ _ e0 e1))))))
      · exact .inr (.inr (.inr (.inr (.inl (key _ _ e0 e1)))))
      · exact .inr (.inr (.inr (.inl (key _ _ e0 e1))))
      · exact .inr (.inr (.inl (key _ _ e0 e1)))
      · exact .inr (.inl (key _ _ e0 e1))
      · exact .inl (key _ _ e0 e1)

set_option maxHeartbeats 4000000 in
theorem logits_run (d : Dev nD) (i : grid0.Coords)
    (M1 : Memref sig .tc .vmem S1024x2048 .f32) (h1 : M1.IsWhole) (M2 : Memref sig .tc .vmem S16x2048 .f32) (h2 : M2.IsWhole)
    (M3 : Memref sig .tc .vmem S16x1 .f32) (h3 : M3.IsWhole) (M4 : Memref sig .tc .vmem S2x8x8x128 .f32) (h4 : M4.IsWhole)
    (f1 : Buf (Elt F) (M1.view.loc (T d))) (f2 : Buf (Elt F) (M2.view.loc (T d))) (f3 : Buf (Elt F) (M3.view.loc (T d))) (f4 : Buf (Elt F) (M4.view.loc (T d))) :
    (iprop((M1.view.loc (T d) ↦{fullShare} f1) ∗ (M2.view.loc (T d) ↦{fullShare} f2) ∗ (M3.view.loc (T d) ↦{fullShare} f3) ∗ (M4.view.loc (T d) ↦{fullShare} f4)) : sProp (MM F))
    ⊢ wp frame (wpE (defs₀ (F := F)) 𝒱₀ (T d) none) Set.univ (cc0__matmul_body i M1 h1 M2 h2 M3 h3 M4 h4)
        fun _ => iprop((M1.view.loc (T d) ↦{fullShare} f1) ∗ (M2.view.loc (T d) ↦{fullShare} f2) ∗ (M3.view.loc (T d) ↦{fullShare} f3)
          ∗ ∃ g, ⌜M4.view.read (Elt F) g = blk (M2.view.read (Elt F) f2) (M1.view.read (Elt F) f1) (M3.view.read (Elt F) f3)⌝ ∗ (M4.view.loc (T d) ↦{fullShare} g)) := by
  rw [cc0__matmul_body_eq_skeleton]; unfold cc0__matmul_body_skel
  iintro ⟨H1, H2, H3, H4⟩
  sl_exec!
  sl_step
  isplitl [H1]; · iexact H1
  isplitl [H2]; · iexact H2
  isplitl [H3]; · iexact H3
  iexists _; isplitr; swap; (· iexact H4)
  ipureintro
  rw [← readAt_full M1.view f1 inb_S1024x2048_S1024x2048_0_0, ← readAt_full M2.view f2 inb_S16x2048_S16x2048_0_0, ← readAt_full M3.view f3 inb_S16x1_S16x1_0_0]
  exact blk_writes M4.view _ _ _ _ rfl rfl rfl rfl rfl rfl rfl rfl rfl rfl rfl rfl rfl rfl rfl rfl

end Cert.Proof

end
-- ==== Proof.AuxBody.lean ====
/-
  The auxiliary loss of the second TensorCore call: what its body leaves.
-/
module

public import proofs.«01_k».proof.Proof.LogitsBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

theorem aux_run (d : Dev nD)
    (M1 : Memref sig .tc .vmem S32x16 .f32) (h1 : M1.IsWhole) (M2 : Memref sig .tc .vmem S32x16 .f32) (h2 : M2.IsWhole)
    (M3 : Memref sig .tc .smem S1x1 .f32) (h3 : M3.IsWhole)
    (f1 : Buf (Elt F) (M1.view.loc (T d))) (f2 : Buf (Elt F) (M2.view.loc (T d))) (f3 : Buf (Elt F) (M3.view.loc (T d))) :
    (iprop((M1.view.loc (T d) ↦{fullShare} f1) ∗ (M2.view.loc (T d) ↦{fullShare} f2) ∗ (M3.view.loc (T d) ↦{fullShare} f3)) : sProp (MM F))
    ⊢ wp frame (wpE (defs₀ (F := F)) 𝒱₀ (T d) none) Set.univ (cc2__aux_body M1 h1 M2 h2 M3 h3)
        fun _ => iprop((M1.view.loc (T d) ↦{fullShare} f1) ∗ (M2.view.loc (T d) ↦{fullShare} f2)
          ∗ ∃ g, ⌜M3.view.read (Elt F) g = fun _ => k2_pay1 (M1.view.read (Elt F) f1) (M2.view.read (Elt F) f2)⌝ ∗ (M3.view.loc (T d) ↦{fullShare} g)) := by
  rw [cc2__aux_body_eq_skeleton]; unfold cc2__aux_body_skel
  iintro ⟨H1, H2, H3⟩
  sl_exec!
  sl_step
  isplitl [H1]; · iexact H1
  isplitl [H2]; · iexact H2
  iexists _; isplitr; swap; (· iexact H3)
  ipureintro
  rw [← readAt_full M1.view f1 inb_S32x16_S32x16_0_0, ← readAt_full M2.view f2 inb_S32x16_S32x16_0_0]

  unfold aux_run.sl.H3_1
  funext y
  refine View.read_writes_apply_of_pieces (Val := Elt F) M3.view _ (fun _ => _) _ ?_ y ?_
  · simp only [List.forall_mem_cons]
    exact ⟨fun _ => trivial, fun _ h => absurd h List.not_mem_nil⟩
  · simp only [List.exists_mem_cons_iff, Rect.mem_set_unit]
    refine .inl fun a => ?_
    match a with
    | 0 => exact ⟨Nat.zero_le _, by have : (y 0).val < 1 := (y 0).isLt; show (y 0).val < 0 + 1; omega⟩
    | 1 => exact ⟨Nat.zero_le _, by have : (y 1).val < 1 := (y 1).isLt; show (y 1).val < 0 + 1; omega⟩

end Cert.Proof

end
-- ==== Proof.Regions.lean ====
/-
  The two TensorCore calls as regions of the program: the contents of their windows, what the cores wait for, and the steps of the calls.
-/
module

public import proofs.«01_k».proof.Proof.AuxBody
public import Idealize.ShloMosaic.Lib.Pipeline.Regions
public import Idealize.ShloMosaic.Lib.Pipeline.FrameBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (Dat Cfg Window BodyObligation cellOf)

variable {F : FTy → Type} [FloatOps F] [∀ e, Nonempty (Elt F e)]

/-- The pipelines' rounds within the algebra. -/
def EP : Emb UPp (MM F) := (Emb.inl : Emb UPp (UPp × Counters)).trans embR
instance EP_landsIn : (EP : Emb UPp (MM F)).LandsIn (upEmb : UEmb _ (MM F)) := by unfold EP; infer_instance

/-- No prefetched table: every choice of them is admissible. -/
abbrev adm : (p : Fin 2) → (pcfgs (F := F) p).Adm := fun p => (cfgs p).toPCfg_adm

/-- The TensorCore owes no unit at the index of the copies. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this
  omega

/-- The waits recorded so far, all at or below the level of the calls made. -/
def low (d : Dev nD) (n : ℕ) : Set (SemLoc sig × HIx 1) := {p | (K (F := F)).lev (T d, p.1) p.2 ≤ 8 * n}

/-- What a core owes around a region entered after `n` SparseCore calls. -/
def due (d : Dev nD) (n : ℕ) : sProp (MM F) :=
  iprop(∃ W, ⌜(K (F := F)).WBelow (T d) W (8 * n)⌝ ∗ owes (T d) ((K (F := F)).Otc d n) W)

section Data

variable (x : (c : Dev nD) → Buf (Elt F) ((SparseCore.T c : Thread nD τ).loc main_arg0)) (w : (c : Dev nD) → Buf (Elt F) ((SparseCore.T c : Thread nD τ).loc main_arg1))
  (b : (c : Dev nD) → Buf (Elt F) ((SparseCore.T c : Thread nD τ).loc main_v0)) (y : (c : Dev nD) → Buf (Elt F) ((SparseCore.T c : Thread nD τ).loc main_v1))
  (ip : (c : Dev nD) → Buf (Elt F) ((SparseCore.T c : Thread nD τ).loc main_v3_4)) (ld : (c : Dev nD) → Buf (Elt F) ((SparseCore.T c : Thread nD τ).loc main_v3_5))
  (z : (c : Dev nD) → Buf (Elt F) ((SparseCore.T c : Thread nD τ).loc main_v4))

/-- The windows' blocks of the first region at a point. -/
abbrev bx (c : Dev nD) (t : Fin cfg0.N) : S1024x2048.Idx → F .f32 := ((cfg0.win 0).blk t).view.read (Elt F) (x c)
abbrev bw (c : Dev nD) (t : Fin cfg0.N) : S16x2048.Idx → F .f32 := ((cfg0.win 1).blk t).view.read (Elt F) (w c)
abbrev bb (c : Dev nD) (t : Fin cfg0.N) : S16x1.Idx → F .f32 := ((cfg0.win 2).blk t).view.read (Elt F) (b c)
abbrev bi (c : Dev nD) (t : Fin cfg2.N) : S32x16.Idx → F .f32 := ((cfg2.win 0).blk t).view.read (Elt F) (ip c)
abbrev bl (c : Dev nD) (t : Fin cfg2.N) : S32x16.Idx → F .f32 := ((cfg2.win 1).blk t).view.read (Elt F) (ld c)

/-- The data of the first region: the inputs stay, each block of logits is that of its tokens. -/
def dat0 (c : Dev nD) : Dat τ (Elt F) (HIx 1) ℕ UU ℕ cfg0 c where
  A k := match k with | ⟨0, _⟩ => x c | ⟨1, _⟩ => w c | ⟨2, _⟩ => b c | ⟨3, _⟩ => y c
  after k t := match k with
    | ⟨0, _⟩ => bx x c t
    | ⟨1, _⟩ => bw w c t
    | ⟨2, _⟩ => bb b c t
    | ⟨3, _⟩ => blk (bw w c t) (bx x c t) (bb b c t)
  Φ _ := Pipeline.scopedRest (Ix := HIx 1) (Name := ℕ) (U := UU) (Lvl := ℕ) (Val := Elt F) spec0 c
  q _ := fullShare
  owed _ := (K (F := F)).Otc c 0
  recorded _ := low (F := F) c 0

/-- The data of the second: the inputs stay, the result is the auxiliary loss. -/
def dat1 (c : Dev nD) : Dat τ (Elt F) (HIx 1) ℕ UU ℕ cfg2 c where
  A k := match k with | ⟨0, _⟩ => ip c | ⟨1, _⟩ => ld c | ⟨2, _⟩ => z c
  after k t := match k with
    | ⟨0, _⟩ => bi ip c t
    | ⟨1, _⟩ => bl ld c t
    | ⟨2, _⟩ => fun _ => k2_pay1 (bi ip c t) (bl ld c t)
  Φ _ := Pipeline.scopedRest (Ix := HIx 1) (Name := ℕ) (U := UU) (Lvl := ℕ) (Val := Elt F) spec2 c
  q _ := fullShare
  owed _ := (K (F := F)).Otc c 1
  recorded _ := low (F := F) c 1

/-- Both. -/
def dats : (p : Fin 2) → (c : Dev nD) → Dat τ (Elt F) (HIx 1) ℕ UU ℕ (Pipeline.pin (pcfgs (F := F)) adm p) c
  | ⟨0, _⟩ => fun c => dat0 x w b y c
  | ⟨1, _⟩ => fun c => dat1 ip ld z c

theorem before0_0 (c : Dev nD) (t : Fin cfg0.N) (d) : (dat0 x w b y c).before 0 t d = bx x c t :=
  (dat0 x w b y c).before_in_eq_fetched 0 rfl (fun _ => rfl) (fun _ _ _ => rfl) (fun _ => rfl) t d
theorem before0_1 (c : Dev nD) (t : Fin cfg0.N) (d) : (dat0 x w b y c).before 1 t d = bw w c t :=
  (dat0 x w b y c).before_in_eq_fetched 1 rfl (fun _ => rfl) (fun _ _ _ => rfl) (fun _ => rfl) t d
theorem before0_2 (c : Dev nD) (t : Fin cfg0.N) (d) : (dat0 x w b y c).before 2 t d = bb b c t :=
  (dat0 x w b y c).before_in_eq_fetched 2 rfl (fun _ => rfl) (fun _ _ _ => rfl) (fun _ => rfl) t d
theorem before1_0 (c : Dev nD) (t : Fin cfg2.N) (d) : (dat1 ip ld z c).before 0 t d = bi ip c t :=
  (dat1 ip ld z c).before_in_eq_fetched 0 rfl (fun _ => rfl) (fun _ _ _ => rfl) (fun _ => rfl) t d
theorem before1_1 (c : Dev nD) (t : Fin cfg2.N) (d) : (dat1 ip ld z c).before 1 t d = bl ld c t :=
  (dat1 ip ld z c).before_in_eq_fetched 1 rfl (fun _ => rfl) (fun _ _ _ => rfl) (fun _ => rfl) t d

/-- A whole memory reference that a core holds at contents it reads as `X`, as the points-to of its buffer. -/
theorem owns_whole (c : Dev nD) {sp : Space} {s : Shape} {e : EltTy} (M : Memref sig .tc sp s e) (h : M.IsWhole) (X : s.Idx → Elt F e) :
    (owns (c.tc : Thread nD τ) M fullShare X : sProp (MM F))
      = iprop(∃ f, ⌜M.view.read (Elt F) f = X⌝ ∗ (M.view.loc (T c) ↦{fullShare} f)) := by
  unfold owns
  simp only [h.set_eq_univ]

theorem blk_congr {w w' : S16x2048.Idx → F .f32} {x x' : S1024x2048.Idx → F .f32} {b b' : S16x1.Idx → F .f32}
    (hw : w = w') (hx : x = x') (hb : b = b') : blk w x b = blk w' x' b' := by subst hw hx hb; rfl

/-- The body of the first region runs at every point. -/
theorem obligation0 (c : Dev nD) : BodyObligation (dat0 x w b y c) (defs₀ (F := F)) 𝒱₀ none Set.univ := fun t => by
  rw [bigSep_W0, bigSep_W0]
  rw [show (dat0 x w b y c).Φ t.castSucc = (dat0 x w b y c).Φ t.succ from rfl,
    show (dat0 x w b y c).owesAt none t.castSucc = (dat0 x w b y c).owesAt none t.succ from rfl]
  simp only [owns_whole c (stage0_0 (cfg0.slots t 0)) (hstage0_0 ((cfg0.slots t 0).cast nbuf0_0)), owns_whole c (stage0_1 (cfg0.slots t 1)) (hstage0_1 ((cfg0.slots t 1).cast nbuf0_1)), owns_whole c (stage0_2 (cfg0.slots t 2)) (hstage0_2 ((cfg0.slots t 2).cast nbuf0_2)), owns_whole c (stage0_3 (cfg0.slots t 3)) (hstage0_3 ((cfg0.slots t 3).cast nbuf0_3))]
  iintro ⟨HΦ, Howes, ⟨%d0, %f0, %hf0, H0⟩, ⟨%d1, %f1, %hf1, H1⟩, ⟨%d2, %f2, %hf2, H2⟩, ⟨%d3, %f3, -, H3⟩⟩
  rw [before0_0] at hf0
  rw [before0_1] at hf1
  rw [before0_2] at hf2
  iapply (wp_wand_r frame (wpE (defs₀ (F := F)) 𝒱₀ (T c) none) Set.univ)
  isplitl [H0 H1 H2 H3]
  · iapply (logits_run c (grid0.coords t) _ (hstage0_0 ((cfg0.slots t 0).cast nbuf0_0)) _ (hstage0_1 ((cfg0.slots t 1).cast nbuf0_1)) _
      (hstage0_2 ((cfg0.slots t 2).cast nbuf0_2)) _ (hstage0_3 ((cfg0.slots t 3).cast nbuf0_3)) f0 f1 f2 f3)
    isplitl [H0]; · iexact H0
    isplitl [H1]; · iexact H1
    isplitl [H2]; · iexact H2
    iexact H3
  iintro %_ ⟨H0, H1, H2, %g, %hg, H3⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists g; isplitr; swap; (· iexact H3); ipureintro
  exact hg.trans (blk_congr hf1 hf0 hf2)

/-- The body of the second region runs. -/
theorem obligation1 (c : Dev nD) : BodyObligation (dat1 ip ld z c) (defs₀ (F := F)) 𝒱₀ none Set.univ := fun t => by
  rw [bigSep_W2, bigSep_W2]
  rw [show (dat1 ip ld z c).Φ t.castSucc = (dat1 ip ld z c).Φ t.succ from rfl,
    show (dat1 ip ld z c).owesAt none t.castSucc = (dat1 ip ld z c).owesAt none t.succ from rfl]
  simp only [owns_whole c (stage2_0 0) (hstage2_0 0), owns_whole c (stage2_1 0) (hstage2_1 0), owns_whole c (stage2_2 0) (hstage2_2 0)]
  iintro ⟨HΦ, Howes, ⟨%d0, %f0, %hf0, H0⟩, ⟨%d1, %f1, %hf1, H1⟩, ⟨%d2, %f2, -, H2⟩⟩
  rw [before1_0] at hf0
  rw [before1_1] at hf1
  iapply (wp_wand_r frame (wpE (defs₀ (F := F)) 𝒱₀ (T c) none) Set.univ)
  isplitl [H0 H1 H2]
  · iapply (aux_run c _ (hstage2_0 0) _ (hstage2_1 0) _ (hstage2_2 0) f0 f1 f2)
    isplitl [H0]; · iexact H0
    isplitl [H1]; · iexact H1
    iexact H2
  iintro %_ ⟨H0, H1, %g, %hg, H2⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists g; isplitr; swap; (· iexact H2); ipureintro
  exact hg.trans (by rw [show _ = _ from hf0, show _ = _ from hf1]; rfl)

theorem arrays0 (c : Dev nD) (G) : (dats x w b y ip ld z 0 c).arrays G
    = iprop((((SparseCore.T c : Thread nD τ).loc main_arg0) ↦{fullShare} G 0) ∗ (((SparseCore.T c : Thread nD τ).loc main_arg1) ↦{fullShare} G 1)
      ∗ (((SparseCore.T c : Thread nD τ).loc main_v0) ↦{fullShare} G 2) ∗ (((SparseCore.T c : Thread nD τ).loc main_v1) ↦{fullShare} G 3)) :=
  (Pipeline.arrays_eq (Pipeline.pin (pcfgs (F := F)) adm) (dats x w b y ip ld z) 0 c launch0.arr_whole
    ((dats x w b y ip ld z 0 c).share_full fun _ => rfl) G).trans (bigSep_W0 _)

theorem arrays1 (c : Dev nD) (G) : (dats x w b y ip ld z 1 c).arrays G
    = iprop((((SparseCore.T c : Thread nD τ).loc main_v3_4) ↦{fullShare} G 0) ∗ (((SparseCore.T c : Thread nD τ).loc main_v3_5) ↦{fullShare} G 1)
      ∗ (((SparseCore.T c : Thread nD τ).loc main_v4) ↦{fullShare} G 2)) :=
  (Pipeline.arrays_eq (Pipeline.pin (pcfgs (F := F)) adm) (dats x w b y ip ld z) 1 c launch2.arr_whole
    ((dats x w b y ip ld z 1 c).share_full fun _ => rfl) G).trans (bigSep_W2 _)

/-- What is owed on entry lies within the bound, -/
theorem due_in (c : Dev nD) (n : ℕ) (B : Set (SemLoc sig × HIx 1)) (h : low (F := F) c n ⊆ B) :
    due (F := F) c n ⊢ Pipeline.owesWithin c ((K (F := F)).Otc c n) B := by
  unfold due Pipeline.owesWithin
  iintro ⟨%W, %hW, HO⟩
  iexists W; isplitr; swap; (· iexact HO)
  ipureintro
  exact fun p hp => h (hW p hp)

/-- and what is owed on exit is low again. -/
theorem due_out (c : Dev nD) (n : ℕ) (B : Set (SemLoc sig × HIx 1)) (h : ∀ p ∈ B, p ∈ low (F := F) c n ∨ p.2 = none) :
    Pipeline.owesWithin c ((K (F := F)).Otc c n) B ⊢ due (F := F) c n := by
  unfold due Pipeline.owesWithin
  iintro ⟨%W, %hW, HO⟩
  iexists W; isplitr; swap; (· iexact HO)
  ipureintro
  intro p hp
  rcases h p (hW hp) with h | h
  · exact h
  · rw [h, SparseCore.Cfg.lev_none]; exact Nat.zero_le _

theorem bound_none {cfg : Cfg sig Λ₀} (S : Set (SemLoc sig × HIx 1)) : ∀ p ∈ S ∪ cfg.waitPairs (none : HIx 1), p ∈ S ∨ p.2 = none := by
  rintro p (h | ⟨k, s, h⟩)
  · exact .inl h
  · exact .inr (by rw [h])

set_option backward.isDefEq.respectTransparency.types false in
/-- The first region. -/
def reg0 : Pipeline.RegionSeg (pcfgs (F := F)) adm (dats x w b y ip ld z) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 x w b y c).loose
  hwaits c := Pipeline.cellsWaits_intro _ _ none 0 c fun k s t => (K (F := F)).mayWait_none _ (Otc_none c 0)
  pre c := iprop(((((SparseCore.T c : Thread nD τ).loc main_arg0) ↦{fullShare} x c) ∗ (((SparseCore.T c : Thread nD τ).loc main_arg1) ↦{fullShare} w c)
      ∗ (((SparseCore.T c : Thread nD τ).loc main_v0) ↦{fullShare} b c) ∗ (((SparseCore.T c : Thread nD τ).loc main_v1) ↦{fullShare} y c)) ∗ due c 0)
  post c := iprop(((((SparseCore.T c : Thread nD τ).loc main_arg0) ↦{fullShare} x c) ∗ (((SparseCore.T c : Thread nD τ).loc main_arg1) ↦{fullShare} w c)
      ∗ (((SparseCore.T c : Thread nD τ).loc main_v0) ↦{fullShare} b c) ∗ (((SparseCore.T c : Thread nD τ).loc main_v1) ↦{fullShare} (dat0 x w b y c).arrAt 3 cfg0.N)) ∗ due c 0)
  X _ := BI.emp
  Y _ := BI.emp
  Z _ := BI.emp
  hentry c := by
    rw [Pipeline.ownSems0_none, arrays0]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (due_in c 0 _ (Set.subset_union_left)) $$ HO
    isplitr <;> iempintro
  hin c := by
    rw [show (dats x w b y ip ld z 0 c).Φ 0 = Pipeline.scopedRest spec0 c from rfl]
    iintro ⟨-, -, Hr⟩; iexact Hr
  hout c := by
    rw [Pipeline.ownSems0_none, show (dats x w b y ip ld z 0 c).Φ (Fin.last _) = Pipeline.scopedRest spec0 c from rfl]
    iintro Hr
    isplitr; · iempintro
    isplitr; · iempintro
    iexact Hr
  hexit c := by
    rw [arrays0]
    rw [show (dats x w b y ip ld z 0 c).arrAt 0 (Pipeline.pin (pcfgs (F := F)) adm 0).N = x c from (dat0 x w b y c).arrAt_in 0 rfl _,
      show (dats x w b y ip ld z 0 c).arrAt 1 (Pipeline.pin (pcfgs (F := F)) adm 0).N = w c from (dat0 x w b y c).arrAt_in 1 rfl _,
      show (dats x w b y ip ld z 0 c).arrAt 2 (Pipeline.pin (pcfgs (F := F)) adm 0).N = b c from (dat0 x w b y c).arrAt_in 2 rfl _]
    iintro ⟨Ha, HO, -, -⟩
    imodintro
    isplitl [Ha]; · iexact Ha
    have hd : (dats x w b y ip ld z 0 c).owesAt none (Fin.last _) ⊢ due (F := F) c 0 := due_out c 0 _ (bound_none (cfg := cfg0) _)
    iapply hd $$ HO

set_option backward.isDefEq.respectTransparency.types false in
/-- The second region. -/
def reg1 : Pipeline.RegionSeg (pcfgs (F := F)) adm (dats x w b y ip ld z) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation1 ip ld z c).loose
  hwaits c := Pipeline.cellsWaits_intro _ _ none 1 c fun k s t => (K (F := F)).mayWait_none _ (Otc_none c 1)
  pre c := iprop(((((SparseCore.T c : Thread nD τ).loc main_v3_4) ↦{fullShare} ip c) ∗ (((SparseCore.T c : Thread nD τ).loc main_v3_5) ↦{fullShare} ld c)
      ∗ (((SparseCore.T c : Thread nD τ).loc main_v4) ↦{fullShare} z c)) ∗ due c 1)
  post c := iprop(((((SparseCore.T c : Thread nD τ).loc main_v3_4) ↦{fullShare} ip c) ∗ (((SparseCore.T c : Thread nD τ).loc main_v3_5) ↦{fullShare} ld c)
      ∗ (((SparseCore.T c : Thread nD τ).loc main_v4) ↦{fullShare} (dat1 ip ld z c).arrAt 2 cfg2.N)) ∗ due c 1)
  X _ := BI.emp
  Y _ := BI.emp
  Z _ := BI.emp
  hentry c := by
    rw [Pipeline.ownSems0_none, arrays1]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (due_in c 1 _ (Set.subset_union_left)) $$ HO
    isplitr <;> iempintro
  hin c := by
    rw [show (dats x w b y ip ld z 1 c).Φ 0 = Pipeline.scopedRest spec2 c from rfl]
    iintro ⟨-, -, Hr⟩; iexact Hr
  hout c := by
    rw [Pipeline.ownSems0_none, show (dats x w b y ip ld z 1 c).Φ (Fin.last _) = Pipeline.scopedRest spec2 c from rfl]
    iintro Hr
    isplitr; · iempintro
    isplitr; · iempintro
    iexact Hr
  hexit c := by
    rw [arrays1]
    rw [show (dats x w b y ip ld z 1 c).arrAt 0 (Pipeline.pin (pcfgs (F := F)) adm 1).N = ip c from (dat1 ip ld z c).arrAt_in 0 rfl _,
      show (dats x w b y ip ld z 1 c).arrAt 1 (Pipeline.pin (pcfgs (F := F)) adm 1).N = ld c from (dat1 ip ld z c).arrAt_in 1 rfl _]
    iintro ⟨Ha, HO, -, -⟩
    imodintro
    isplitl [Ha]; · iexact Ha
    have hd : (dats x w b y ip ld z 1 c).owesAt none (Fin.last _) ⊢ due (F := F) c 1 := due_out c 1 _ (bound_none (cfg := cfg2) _)
    iapply hd $$ HO

/-- What a pipeline's region draws on, once: its cells and its tokens. -/
def tick (p : Fin 2) (d : Dev nD) : sProp (MM F) :=
  iprop(Pipeline.cellsGhost (Pipeline.pin (pcfgs (F := F)) adm) EP p d ∗ Pipeline.toksInit (Pipeline.pin (pcfgs (F := F)) adm) EP p d)

/-- The first call on its own: the array of logits filled. -/
theorem inner0 (d : Dev nD) (Q : PUnit → sProp (MM F)) :
    iprop((iprop(boundary (T d) ∗ (reg0 x w b y ip ld z).post d) -∗ Q ⟨⟩) ∗ boundary (T d) ∗ (reg0 x w b y ip ld z).pre d ∗ levAts (K (F := F)).L (K (F := F)).lev ∗ tick 0 d)
      ⊢ wp frame (wpE (D (F := F)) 𝒱 (T d) none) Set.univ
        (.op (.customCall (Pipeline.entry 0) ()) fun _ => .ret ⟨⟩ : Prog (TpuEff nD τ sig (Elt F) (ΛP (F := F)) .tc) PUnit) Q := by
  have h := Pipeline.RegionSeg.wp (pcfgs (F := F)) adm (dats x w b y ip ld z) none cellOf_inj EP defs₀ 𝒱₀ (K (F := F)).L (K (F := F)).lev
    (reg0 x w b y ip ld z) d none (fun u hu => nomatch hu) (fun _ => .ret ⟨⟩) Q
  refine BIBase.Entails.trans ?_ h
  unfold tick
  iintro ⟨Hk, H⟩
  isplitl [Hk]
  · iintro Hp
    rw [wp_ret]; imodintro
    iapply Hk; iexact Hp
  iexact H

/-- The same within the program. -/
theorem call0 (d : Dev nD) (Q : PUnit → sProp (MM F)) :
    iprop((iprop(boundary (T d) ∗ (reg0 x w b y ip ld z).post d) -∗ Q ⟨⟩) ∗ boundary (T d) ∗ (reg0 x w b y ip ld z).pre d ∗ levAts (K (F := F)).L (K (F := F)).lev ∗ tick 0 d)
      ⊢ wp frame (wpE ((K (F := F)).defs D) 𝒱 (T d) none) Set.univ (Prog.lift (.customCall (SparseCore.inner (Pipeline.entry 0)) ())) Q := by
  have h := (K (F := F)).wp_liftProg (Name := ℕ) (U := UU) D 𝒱 (T d) Set.univ none
    (.op (.customCall (Pipeline.entry 0) ()) fun _ => .ret ⟨⟩ : Prog (TpuEff nD τ sig (Elt F) (ΛP (F := F)) .tc) PUnit) Q
  exact (inner0 x w b y ip ld z d Q).trans h

/-- The second call on its own: the auxiliary loss. -/
theorem inner1 (d : Dev nD) (Q : PUnit → sProp (MM F)) :
    iprop((iprop(boundary (T d) ∗ (reg1 x w b y ip ld z).post d) -∗ Q ⟨⟩) ∗ boundary (T d) ∗ (reg1 x w b y ip ld z).pre d ∗ levAts (K (F := F)).L (K (F := F)).lev ∗ tick 1 d)
      ⊢ wp frame (wpE (D (F := F)) 𝒱 (T d) none) Set.univ
        (.op (.customCall (Pipeline.entry 1) ()) fun _ => .ret ⟨⟩ : Prog (TpuEff nD τ sig (Elt F) (ΛP (F := F)) .tc) PUnit) Q := by
  have h := Pipeline.RegionSeg.wp (pcfgs (F := F)) adm (dats x w b y ip ld z) none cellOf_inj EP defs₀ 𝒱₀ (K (F := F)).L (K (F := F)).lev
    (reg1 x w b y ip ld z) d none (fun u hu => nomatch hu) (fun _ => .ret ⟨⟩) Q
  refine BIBase.Entails.trans ?_ h
  unfold tick
  iintro ⟨Hk, H⟩
  isplitl [Hk]
  · iintro Hp
    rw [wp_ret]; imodintro
    iapply Hk; iexact Hp
  iexact H

/-- The same within the program. -/
theorem call1 (d : Dev nD) (Q : PUnit → sProp (MM F)) :
    iprop((iprop(boundary (T d) ∗ (reg1 x w b y ip ld z).post d) -∗ Q ⟨⟩) ∗ boundary (T d) ∗ (reg1 x w b y ip ld z).pre d ∗ levAts (K (F := F)).L (K (F := F)).lev ∗ tick 1 d)
      ⊢ wp frame (wpE ((K (F := F)).defs D) 𝒱 (T d) none) Set.univ (Prog.lift (.customCall (SparseCore.inner (Pipeline.entry 1)) ())) Q := by
  have h := (K (F := F)).wp_liftProg (Name := ℕ) (U := UU) D 𝒱 (T d) Set.univ none
    (.op (.customCall (Pipeline.entry 1) ()) fun _ => .ret ⟨⟩ : Prog (TpuEff nD τ sig (Elt F) (ΛP (F := F)) .tc) PUnit) Q
  exact (inner1 x w b y ip ld z d Q).trans h

end Data

end Cert.Proof

end
-- ==== Proof.Host.lean ====
/-
  A step of the host program over the buffers it reads and writes, each held on its own.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

/-- An operation that reads `x` and writes `y`. -/
theorem step2 (d : Dev nD) {op : HloOp τ sig (Elt F)} (x y : Ref sig .tc) (hxy : x ≠ y)
    (hb : op.bufs = {Proc.devRef .tc x, Proc.devRef .tc y}) (hw : op.writes = {Proc.devRef .tc y}) (hf : op.fresh = ∅)
    (g : Buf (Elt F) ((SparseCore.T d : Thread nD τ).loc x)) (h v : Buf (Elt F) ((SparseCore.T d : Thread nD τ).loc y))
    (hv : ∀ V : Valuation τ sig (Elt F), V (Proc.devRef .tc x) = g → op.result V (Proc.devRef .tc y) = v) (Q : PUnit → sProp (MM F)) :
    iprop(boundary (T d) ∗ ((SparseCore.T d : Thread nD τ).loc x ↦{fullShare} g) ∗ ((SparseCore.T d : Thread nD τ).loc y ↦{fullShare} h)
        ∗ ((boundary (T d) ∗ ((SparseCore.T d : Thread nD τ).loc x ↦{fullShare} g) ∗ ((SparseCore.T d : Thread nD τ).loc y ↦{fullShare} v)) -∗ Q ⟨⟩))
      ⊢ wp frame (wpE ((K (F := F)).defs D) 𝒱 (T d) none) Set.univ (hlo rfl op fun _ => .ret ⟨⟩) Q := by
  have hne : (Proc.devRef .tc x : DevRef τ sig) ≠ Proc.devRef .tc y := StableHlo.devRef_ne_of_ne hxy
  let V : Valuation τ sig (Elt F) := Function.update (Function.update (fun _ _ => Classical.arbitrary _) (Proc.devRef .tc x) g) (Proc.devRef .tc y) h
  have hVx : V (Proc.devRef .tc x) = g := (Function.update_of_ne hne _ _).trans (Function.update_self _ _ _)
  have hVy : V (Proc.devRef .tc y) = h := Function.update_self _ _ _
  have hheld : ∀ W : Valuation τ sig (Elt F), (StableHlo.held (T d) {Proc.devRef .tc x, Proc.devRef .tc y} W : sProp (MM F))
      = iprop(((d, Proc.devRef .tc x) ↦{fullShare} W (Proc.devRef .tc x)) ∗ ((d, Proc.devRef .tc y) ↦{fullShare} W (Proc.devRef .tc y))) := fun W => by
    unfold StableHlo.held
    rw [SparseCore.bigSep_insert' (by rw [Finset.mem_singleton]; exact hne), bigSep_singleton]
  have hR1 : op.result V (Proc.devRef .tc x) = g := (HloOp.result_of_not_mem _ _ (by rw [hw, Finset.mem_singleton]; exact hne)).trans hVx
  iintro ⟨Hb, Hx, Hy, Hk⟩
  iapply (StableHlo.wp_hlo_within 𝒱 (T d) none Set.univ (op := op) (S := {Proc.devRef .tc x, Proc.devRef .tc y}) (V := V) hb.le hf) $$ [Hb Hx Hy]
  · rw [hheld, hVx, hVy]
    isplitl [Hb]; · iexact Hb
    isplitl [Hx] <;> iassumption
  rw [hheld, hR1, hv V hVx]
  iintro ⟨Hb, Hx, Hy⟩
  rw [wp_ret]; imodintro
  iapply Hk
  isplitl [Hb]; · iexact Hb
  isplitl [Hx] <;> iassumption

/-- An operation that reads `x` and `z` and writes `y`. -/
theorem step3 (d : Dev nD) {op : HloOp τ sig (Elt F)} (x z y : Ref sig .tc) (hxz : x ≠ z) (hxy : x ≠ y) (hzy : z ≠ y)
    (hb : op.bufs = {Proc.devRef .tc x, Proc.devRef .tc z, Proc.devRef .tc y}) (hw : op.writes = {Proc.devRef .tc y}) (hf : op.fresh = ∅)
    (g : Buf (Elt F) ((SparseCore.T d : Thread nD τ).loc x)) (g' : Buf (Elt F) ((SparseCore.T d : Thread nD τ).loc z))
    (h v : Buf (Elt F) ((SparseCore.T d : Thread nD τ).loc y))
    (hv : ∀ V : Valuation τ sig (Elt F), V (Proc.devRef .tc x) = g → V (Proc.devRef .tc z) = g' → op.result V (Proc.devRef .tc y) = v)
    (Q : PUnit → sProp (MM F)) :
    iprop(boundary (T d) ∗ ((SparseCore.T d : Thread nD τ).loc x ↦{fullShare} g) ∗ ((SparseCore.T d : Thread nD τ).loc z ↦{fullShare} g')
        ∗ ((SparseCore.T d : Thread nD τ).loc y ↦{fullShare} h)
        ∗ ((boundary (T d) ∗ ((SparseCore.T d : Thread nD τ).loc x ↦{fullShare} g) ∗ ((SparseCore.T d : Thread nD τ).loc z ↦{fullShare} g')
          ∗ ((SparseCore.T d : Thread nD τ).loc y ↦{fullShare} v)) -∗ Q ⟨⟩))
      ⊢ wp frame (wpE ((K (F := F)).defs D) 𝒱 (T d) none) Set.univ (hlo rfl op fun _ => .ret ⟨⟩) Q := by
  have nxz : (Proc.devRef .tc x : DevRef τ sig) ≠ Proc.devRef .tc z := StableHlo.devRef_ne_of_ne hxz
  have nxy : (Proc.devRef .tc x : DevRef τ sig) ≠ Proc.devRef .tc y := StableHlo.devRef_ne_of_ne hxy
  have nzy : (Proc.devRef .tc z : DevRef τ sig) ≠ Proc.devRef .tc y := StableHlo.devRef_ne_of_ne hzy
  let V : Valuation τ sig (Elt F) := Function.update (Function.update (Function.update (fun _ _ => Classical.arbitrary _)
    (Proc.devRef .tc x) g) (Proc.devRef .tc z) g') (Proc.devRef .tc y) h
  have hVx : V (Proc.devRef .tc x) = g := (Function.update_of_ne nxy _ _).trans ((Function.update_of_ne nxz _ _).trans (Function.update_self _ _ _))
  have hVz : V (Proc.devRef .tc z) = g' := (Function.update_of_ne nzy _ _).trans (Function.update_self _ _ _)
  have hVy : V (Proc.devRef .tc y) = h := Function.update_self _ _ _
  have hheld : ∀ W : Valuation τ sig (Elt F), (StableHlo.held (T d) {Proc.devRef .tc x, Proc.devRef .tc z, Proc.devRef .tc y} W : sProp (MM F))
      = iprop(((d, Proc.devRef .tc x) ↦{fullShare} W (Proc.devRef .tc x)) ∗ ((d, Proc.devRef .tc z) ↦{fullShare} W (Proc.devRef .tc z))
        ∗ ((d, Proc.devRef .tc y) ↦{fullShare} W (Proc.devRef .tc y))) := fun W => by
    unfold StableHlo.held
    rw [SparseCore.bigSep_insert' (by rw [Finset.mem_insert, Finset.mem_singleton]; exact not_or.mpr ⟨nxz, nxy⟩),
      SparseCore.bigSep_insert' (by rw [Finset.mem_singleton]; exact nzy), bigSep_singleton]
  have hR1 : op.result V (Proc.devRef .tc x) = g := (HloOp.result_of_not_mem _ _ (by rw [hw, Finset.mem_singleton]; exact nxy)).trans hVx
  have hR2 : op.result V (Proc.devRef .tc z) = g' := (HloOp.result_of_not_mem _ _ (by rw [hw, Finset.mem_singleton]; exact nzy)).trans hVz
  iintro ⟨Hb, Hx, Hz, Hy, Hk⟩
  iapply (StableHlo.wp_hlo_within 𝒱 (T d) none Set.univ (op := op) (S := {Proc.devRef .tc x, Proc.devRef .tc z, Proc.devRef .tc y}) (V := V) hb.le hf) $$ [Hb Hx Hz Hy]
  · rw [hheld, hVx, hVz, hVy]
    isplitl [Hb]; · iexact Hb
    isplitl [Hx]; · iexact Hx
    isplitl [Hz] <;> iassumption
  rw [hheld, hR1, hR2, hv V hVx hVz]
  iintro ⟨Hb, Hx, Hz, Hy⟩
  rw [wp_ret]; imodintro
  iapply Hk
  isplitl [Hb]; · iexact Hb
  isplitl [Hx]; · iexact Hx
  isplitl [Hz] <;> iassumption

end Cert.Proof

end
-- ==== Proof.Main.lean ====
/-
  The program's run on a TensorCore: its host operations, its two TensorCore calls and its SparseCore call, from the launch to the results.
-/
module

public import proofs.«01_k».proof.Proof.CallTile
public import proofs.«01_k».proof.Proof.Regions
public import proofs.«01_k».proof.Proof.Host

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (cellOf)

variable {F : FTy → Type} [FloatOps F] [∀ e, Nonempty (Elt F e)]

section Contents

variable (m : (ℓ : Loc nD τ sig) → Buf (Elt F) ℓ)

/-- The two arrays of the first call, and what its result's buffer held. -/
def aX (c : Dev nD) : Buf (Elt F) ((SparseCore.T c : Thread nD τ).loc main_arg0) := m ((SparseCore.T c : Thread nD τ).loc main_arg0)
def aW (c : Dev nD) : Buf (Elt F) ((SparseCore.T c : Thread nD τ).loc main_arg1) := m ((SparseCore.T c : Thread nD τ).loc main_arg1)
def aY (c : Dev nD) : Buf (Elt F) ((SparseCore.T c : Thread nD τ).loc main_v1) := m ((SparseCore.T c : Thread nD τ).loc main_v1)
def aZ (c : Dev nD) : Buf (Elt F) ((SparseCore.T c : Thread nD τ).loc main_v4) := m ((SparseCore.T c : Thread nD τ).loc main_v4)

/-- The bias as a column. -/
def aB (c : Dev nD) : Buf (Elt F) ((SparseCore.T c : Thread nD τ).loc main_v0) :=
  (shapeCast S16x1 (m ((SparseCore.T c : Thread nD τ).loc main_arg2) : S16.Idx → F .f32) shapeCasts_S16_S16x1 : S16x1.Idx → F .f32)

/-- The logits as the first call leaves them. -/
def logits (c : Dev nD) : S2x128x8x128.Idx → F .f32 := (dat0 (aX m) (aW m) (aB m) (aY m) c).arrAt 3 cfg0.N

/-- The logits laid flat, as the SparseCores read them. -/
def flat (c : Dev nD) : S262144.Idx → F .f32 := shapeCast S262144 (logits m c) shapeCasts_S2x128x8x128_S262144

/-- The rows of lane sums the SparseCores leave. -/
def aI (c : Dev nD) : Buf (Elt F) ((SparseCore.T c : Thread nD τ).loc main_v3_4) := rowOf (gIP (fl (flat m c)))
def aL (c : Dev nD) : Buf (Elt F) ((SparseCore.T c : Thread nD τ).loc main_v3_5) := rowOf (gLD (fl (flat m c)))

/-- The auxiliary loss as the last call leaves it. -/
def loss (c : Dev nD) : S1x1.Idx → F .f32 := (dat1 (aI m) (aL m) (aZ m) c).arrAt 2 cfg2.N

/-- The three results. -/
def res5 (c : Dev nD) : S_.Idx → F .f32 := shapeCast S_ (loss m c) shapeCasts_S1x1_S_
def col32 (f : S16384.Idx → BitVec 32) : S16384x1.Idx → BitVec 32 := broadcastInDim S16384x1 ![0] bcast_S16384_S16384x1_0 f
def colF (f : S16384.Idx → F .f32) : S16384x1.Idx → F .f32 := broadcastInDim S16384x1 ![0] bcast_S16384_S16384x1_0 f
def res8 (c : Dev nD) : S16384x2.Idx → BitVec 32 :=
  concatenate S16384x2 1 [⟨S16384x1, col32 (outOf (gI1 (fl (flat m c))))⟩, ⟨S16384x1, col32 (outOf (gI2 (fl (flat m c))))⟩] concatenates_S16384x1_S16384x1_S16384x2_d1
def res11 (c : Dev nD) : S16384x2.Idx → F .f32 :=
  concatenate S16384x2 1 [⟨S16384x1, colF (outOf (gW1 (fl (flat m c))))⟩, ⟨S16384x1, colF (outOf (gW2 (fl (flat m c))))⟩] concatenates_S16384x1_S16384x1_S16384x2_d1

end Contents

/-! ## The launch element -/

/-- The handshakes' rounds and the two pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's TensorCore holds besides the call's state: its two pipelines' shares. -/
def ticks (d : Dev nD) : sProp (MM F) := iprop(tick 0 d ∗ tick 1 d)

/-- The pipelines' part of the launch element is every device's two shares. -/
theorem ticks_of : (BI.own (EP (initOf (Pipeline.cells (Pipeline.pin (pcfgs (F := F)) adm) cellOf_inj) (Pipeline.launchToks (Pipeline.pin (pcfgs (F := F)) adm) cellOf_inj))) : sProp (MM F))
    ⊢ iprop(|==> bigSep Finset.univ fun d : Dev nD => ticks d) := by
  have h := Pipeline.fund_ghost (Pipeline.pin (pcfgs (F := F)) adm) (EP (F := F)) cellOf_inj
  refine BIBase.Entails.trans h (bupd_mono ?_)
  rw [← bigSep_sep']
  refine bigSep_mono fun d _ => ?_
  rw [← bigSep_sep']
  have e : (bigSep (Finset.univ : Finset (Fin 2)) fun p => (tick p d : sProp (MM F))) = iprop(tick 0 d ∗ tick 1 d) :=
    bigSep_univ_eq_bigSepL [(0 : Fin 2), (1 : Fin 2)] (by decide) (by decide) _
  exact Entails.of_eq e

section Launch

variable (m : (ℓ : Loc nD τ sig) → Buf (Elt F) ℓ) (ρ : Dev nD → PrngReg)

omit [FloatOps F] [∀ e, Nonempty (Elt F e)] in
theorem bigSep_emps {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => ticks d)
        ∗ bigSep Finset.univ fun thr : Thread nD τ => bigSep Finset.univ fun q : Fin 1 => (P m (flat m)).x q thr) := by
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave HR' := (own_pair_emb (embR : Emb (UPp × Counters) (MM F)) (initOf (Pipeline.cells (Pipeline.pin (pcfgs (F := F)) adm) cellOf_inj) (Pipeline.launchToks (Pipeline.pin (pcfgs (F := F)) adm) cellOf_inj)) (1 : Counters)) $$ HR
  icases HR' with ⟨HP, -⟩
  imod (show BI.own (((Emb.inl : Emb UPp (UPp × Counters)).trans (embR : Emb (UPp × Counters) (MM F))) _) ⊢ _ from ticks_of (F := F)) $$ HP with HG
  imodintro
  isplitl [HH]; · iexact HH
  isplitl [HG]; · iexact HG
  rw [show (bigSep Finset.univ fun thr : Thread nD τ => bigSep Finset.univ fun q : Fin 1 => (P (F := F) m (flat m)).x q thr) = bigSep Finset.univ fun _ => iprop(emp) from
    bigSep_congr fun _ _ => bigSep_univ_of_subsingleton (0 : Fin 1), bigSep_emps]
  iempintro

theorem unscopedBufs_eq (d : Dev nD) (W : (b : Ref sig .tc) → Buf (Elt F) ((d.tc : Thread nD τ).loc b)) :
    (unscopedBufs d W : sProp (MM F))
      = iprop(((((SparseCore.T d : Thread nD τ).loc main_arg0) ↦{fullShare} W main_arg0) ∗ (((SparseCore.T d : Thread nD τ).loc main_arg1) ↦{fullShare} W main_arg1) ∗ (((SparseCore.T d : Thread nD τ).loc main_v0) ↦{fullShare} W main_v0) ∗ (((SparseCore.T d : Thread nD τ).loc main_v1) ↦{fullShare} W main_v1)) ∗ (((SparseCore.T d : Thread nD τ).loc main_arg2) ↦{fullShare} W main_arg2) ∗ (((SparseCore.T d : Thread nD τ).loc main_v2) ↦{fullShare} W main_v2) ∗ (((SparseCore.T d : Thread nD τ).loc main_v3_0) ↦{fullShare} W main_v3_0) ∗ (((SparseCore.T d : Thread nD τ).loc main_v3_1) ↦{fullShare} W main_v3_1) ∗ (((SparseCore.T d : Thread nD τ).loc main_v3_2) ↦{fullShare} W main_v3_2) ∗ (((SparseCore.T d : Thread nD τ).loc main_v3_3) ↦{fullShare} W main_v3_3) ∗ (((SparseCore.T d : Thread nD τ).loc main_v3_4) ↦{fullShare} W main_v3_4) ∗ (((SparseCore.T d : Thread nD τ).loc main_v3_5) ↦{fullShare} W main_v3_5) ∗ (((SparseCore.T d : Thread nD τ).loc main_v4) ↦{fullShare} W main_v4) ∗ (((SparseCore.T d : Thread nD τ).loc main_v5) ↦{fullShare} W main_v5) ∗ (((SparseCore.T d : Thread nD τ).loc main_v6) ↦{fullShare} W main_v6) ∗ (((SparseCore.T d : Thread nD τ).loc main_v7) ↦{fullShare} W main_v7) ∗ (((SparseCore.T d : Thread nD τ).loc main_v8) ↦{fullShare} W main_v8) ∗ (((SparseCore.T d : Thread nD τ).loc main_v9) ↦{fullShare} W main_v9) ∗ (((SparseCore.T d : Thread nD τ).loc main_v10) ↦{fullShare} W main_v10) ∗ (((SparseCore.T d : Thread nD τ).loc main_v11) ↦{fullShare} W main_v11)) := by
  rw [Pipeline.unscopedBufs_split cfgs 0 winFacts0.arr_unscoped winFacts0.arr_inj d W]
  congr 1
  · exact bigSep_W0 _
  · exact unscopedRest0_eq d W

/-- The call's state less what the core owes. -/
def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp (MM F)) = iprop(due d n ∗ tcRest d n) := by
  unfold SparseCore.Cfg.tcSt due tcRest
  rfl

theorem reg0_pre (x w b y ip ld z) (d : Dev nD) : (reg0 (F := F) x w b y ip ld z).pre d = iprop((((SparseCore.T d : Thread nD τ).loc main_arg0 ↦{fullShare} x d) ∗ ((SparseCore.T d : Thread nD τ).loc main_arg1 ↦{fullShare} w d)
    ∗ ((SparseCore.T d : Thread nD τ).loc main_v0 ↦{fullShare} b d) ∗ ((SparseCore.T d : Thread nD τ).loc main_v1 ↦{fullShare} y d)) ∗ due d 0) := rfl
theorem reg0_post (x w b y ip ld z) (d : Dev nD) : (reg0 (F := F) x w b y ip ld z).post d = iprop((((SparseCore.T d : Thread nD τ).loc main_arg0 ↦{fullShare} x d) ∗ ((SparseCore.T d : Thread nD τ).loc main_arg1 ↦{fullShare} w d)
    ∗ ((SparseCore.T d : Thread nD τ).loc main_v0 ↦{fullShare} b d) ∗ ((SparseCore.T d : Thread nD τ).loc main_v1 ↦{fullShare} (dat0 x w b y d).arrAt 3 cfg0.N)) ∗ due d 0) := rfl
theorem reg1_pre (x w b y ip ld z) (d : Dev nD) : (reg1 (F := F) x w b y ip ld z).pre d = iprop((((SparseCore.T d : Thread nD τ).loc main_v3_4 ↦{fullShare} ip d) ∗ ((SparseCore.T d : Thread nD τ).loc main_v3_5 ↦{fullShare} ld d)
    ∗ ((SparseCore.T d : Thread nD τ).loc main_v4 ↦{fullShare} z d)) ∗ due d 1) := rfl
theorem reg1_post (x w b y ip ld z) (d : Dev nD) : (reg1 (F := F) x w b y ip ld z).post d = iprop((((SparseCore.T d : Thread nD τ).loc main_v3_4 ↦{fullShare} ip d) ∗ ((SparseCore.T d : Thread nD τ).loc main_v3_5 ↦{fullShare} ld d)
    ∗ ((SparseCore.T d : Thread nD τ).loc main_v4 ↦{fullShare} (dat1 ip ld z d).arrAt 2 cfg2.N)) ∗ due d 1) := rfl

/-- What the core ends with: the arguments as they were, and the results. -/
def FIN (d : Dev nD) : sProp (MM F) :=
  iprop(((SparseCore.T d : Thread nD τ).loc main_arg0 ↦{fullShare} aX m d) ∗ ((SparseCore.T d : Thread nD τ).loc main_arg1 ↦{fullShare} aW m d)
    ∗ ((SparseCore.T d : Thread nD τ).loc main_arg2 ↦{fullShare} m ((SparseCore.T d : Thread nD τ).loc main_arg2))
    ∗ ((SparseCore.T d : Thread nD τ).loc main_v8 ↦{fullShare} (res8 m d : Buf (Elt F) ((SparseCore.T d : Thread nD τ).loc main_v8)))
    ∗ ((SparseCore.T d : Thread nD τ).loc main_v11 ↦{fullShare} (res11 m d : Buf (Elt F) ((SparseCore.T d : Thread nD τ).loc main_v11)))
    ∗ ((SparseCore.T d : Thread nD τ).loc main_v5 ↦{fullShare} (res5 m d : Buf (Elt F) ((SparseCore.T d : Thread nD τ).loc main_v5))))

theorem hmain (κ : GSem nD τ sig → ℕ) (d : Dev nD) :
    iprop((K (F := F)).ctx EH (P m (flat m)) κ ∗ (K (F := F)).tcSt EH d 0 ∗ (K (F := F)).tcRes m ρ d ∗ ticks d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ticks
  rw [unscopedBufs_eq, tcSt_eq d 0]
  simp only [main, wp_bind, wp_pure]
  iintro ⟨#Hctx, ⟨Hdue, Hst⟩, ⟨Hb, ⟨⟨Ha0, Ha1, Hv0, Hv1⟩, Harg2, Hv2, Hv3_0, Hv3_1, Hv3_2, Hv3_3, Hv3_4, Hv3_5, Hv4, Hv5, Hv6, Hv7, Hv8, Hv9, Hv10, Hv11⟩, Hts, -⟩, ⟨Ht0, Ht1⟩⟩
  ihave Hlev := ((K (F := F)).ctx_levAts (EH := EH) (P := P m (flat m)) κ) $$ Hctx
  -- the bias as a column
  iapply (step2 d main_arg2 main_v0 (by decide) rfl rfl rfl (m ((SparseCore.T d : Thread nD τ).loc main_arg2)) _ (aB m d)
    (fun V hV => (StableHlo.reshape_result _ _ _ _ _ _ V).trans (by rw [hV]; rfl)))
  isplitl [Hb]; · iexact Hb
  isplitl [Harg2]; · iexact Harg2
  isplitl [Hv0]; · iexact Hv0
  iintro ⟨Hb, Harg2, Hv0⟩
  -- the logits
  iapply (call0 (aX m) (aW m) (aB m) (aY m) (aI m) (aL m) (aZ m) d)
  rw [reg0_pre, reg0_post]
  isplitr [Hb Ha0 Ha1 Hv0 Hv1 Hdue Hlev Ht0]
  swap
  · isplitl [Hb]; · iexact Hb
    isplitl [Ha0 Ha1 Hv0 Hv1 Hdue]
    · isplitr [Hdue]
      · isplitl [Ha0]; · iexact Ha0
        isplitl [Ha1]; · iexact Ha1
        isplitl [Hv0]; · iexact Hv0
        iexact Hv1
      iexact Hdue
    isplitl [Hlev]; · iexact Hlev
    iexact Ht0
  iintro ⟨Hb, ⟨⟨Ha0, Ha1, Hv0, Hv1⟩, Hdue⟩⟩
  -- the logits laid flat
  iapply (step2 d main_v1 main_v2 (by decide) rfl rfl rfl (logits m d : Buf (Elt F) ((SparseCore.T d : Thread nD τ).loc main_v1)) _ (flat m d : Buf (Elt F) ((SparseCore.T d : Thread nD τ).loc main_v2))
    (fun V hV => (StableHlo.reshape_result _ _ _ _ _ _ V).trans (by rw [hV]; rfl)))
  isplitl [Hb]; · iexact Hb
  isplitl [Hv1]; · iexact Hv1
  isplitl [Hv2]; · iexact Hv2
  iintro ⟨Hb, Hv1, Hv2⟩
  -- the SparseCore call
  iapply ((K (F := F)).wp_run (D (F := F)) 𝒱 (EH := EH) (P := P m (flat m)) κ d 0)
  isplitr; · iexact Hctx
  isplitl [Hdue Hst]
  · rw [show ((0 : Fin 1).val) = 0 from rfl, tcSt_eq d 0]
    isplitl [Hdue] <;> iassumption
  isplitl [Hv2 Hv3_0 Hv3_1 Hv3_2 Hv3_3 Hv3_4 Hv3_5]
  · rw [st0_eq]
    isplitl [Hv2]; · iexact Hv2
    isplitl [Hv3_0]; · iexact Hv3_0
    isplitl [Hv3_1]; · iexact Hv3_1
    isplitl [Hv3_2]; · iexact Hv3_2
    isplitl [Hv3_3]; · iexact Hv3_3
    isplitl [Hv3_4]; · iexact Hv3_4
    iexact Hv3_5
  rw [show ((0 : Fin 1).val + 1) = 1 from rfl, tcSt_eq d 1]
  iintro ⟨⟨Hdue, Hst⟩, Hdn⟩
  ihave Hdn' := (Entails.of_eq (dn0_eq m (flat m) d)) $$ Hdn
  icases Hdn' with ⟨Hv2, Hv3_0, Hv3_1, Hv3_2, Hv3_3, Hv3_4, Hv3_5⟩
  -- the auxiliary loss
  ihave Hlev := ((K (F := F)).ctx_levAts (EH := EH) (P := P m (flat m)) κ) $$ Hctx
  iapply (call1 (aX m) (aW m) (aB m) (aY m) (aI m) (aL m) (aZ m) d)
  rw [reg1_pre, reg1_post]
  isplitr [Hb Hv3_4 Hv3_5 Hv4 Hdue Hlev Ht1]
  swap
  · isplitl [Hb]; · iexact Hb
    isplitl [Hv3_4 Hv3_5 Hv4 Hdue]
    · isplitr [Hdue]
      · isplitl [Hv3_4]; · iexact Hv3_4
        isplitl [Hv3_5]; · iexact Hv3_5
        iexact Hv4
      iexact Hdue
    isplitl [Hlev]; · iexact Hlev
    iexact Ht1
  iintro ⟨Hb, ⟨⟨Hv3_4, Hv3_5, Hv4⟩, Hdue⟩⟩
  iapply (step2 d main_v4 main_v5 (by decide) rfl rfl rfl (loss m d : Buf (Elt F) ((SparseCore.T d : Thread nD τ).loc main_v4)) _ (res5 m d : Buf (Elt F) ((SparseCore.T d : Thread nD τ).loc main_v5))
    (fun V hV => (StableHlo.reshape_result _ _ _ _ _ _ V).trans (by rw [hV]; rfl)))
  isplitl [Hb]; · iexact Hb
  isplitl [Hv4]; · iexact Hv4
  isplitl [Hv5]; · iexact Hv5
  iintro ⟨Hb, Hv4, Hv5⟩
  iapply (step2 d main_v3_0 main_v6 (by decide) rfl rfl rfl (outOf (gI1 (fl (flat m d))) : Buf (Elt F) ((SparseCore.T d : Thread nD τ).loc main_v3_0)) _ (col32 (outOf (gI1 (fl (flat m d)))) : Buf (Elt F) ((SparseCore.T d : Thread nD τ).loc main_v6))
    (fun V hV => (StableHlo.unary_result _ _ _ _ _ V).trans (by rw [hV]; rfl)))
  isplitl [Hb]; · iexact Hb
  isplitl [Hv3_0]; · iexact Hv3_0
  isplitl [Hv6]; · iexact Hv6
  iintro ⟨Hb, Hv3_0, Hv6⟩
  iapply (step2 d main_v3_1 main_v7 (by decide) rfl rfl rfl (outOf (gI2 (fl (flat m d))) : Buf (Elt F) ((SparseCore.T d : Thread nD τ).loc main_v3_1)) _ (col32 (outOf (gI2 (fl (flat m d)))) : Buf (Elt F) ((SparseCore.T d : Thread nD τ).loc main_v7))
    (fun V hV => (StableHlo.unary_result _ _ _ _ _ V).trans (by rw [hV]; rfl)))
  isplitl [Hb]; · iexact Hb
  isplitl [Hv3_1]; · iexact Hv3_1
  isplitl [Hv7]; · iexact Hv7
  iintro ⟨Hb, Hv3_1, Hv7⟩
  iapply (step3 d main_v6 main_v7 main_v8 (by decide) (by decide) (by decide) rfl rfl rfl (col32 (outOf (gI1 (fl (flat m d)))) : Buf (Elt F) ((SparseCore.T d : Thread nD τ).loc main_v6))
    (col32 (outOf (gI2 (fl (flat m d)))) : Buf (Elt F) ((SparseCore.T d : Thread nD τ).loc main_v7)) _ (res8 m d : Buf (Elt F) ((SparseCore.T d : Thread nD τ).loc main_v8))
    (fun V hV hV' => (StableHlo.binary_result _ _ _ _ _ _ _ V).trans (by rw [hV, hV']; rfl)))
  isplitl [Hb]; · iexact Hb
  isplitl [Hv6]; · iexact Hv6
  isplitl [Hv7]; · iexact Hv7
  isplitl [Hv8]; · iexact Hv8
  iintro ⟨Hb, Hv6, Hv7, Hv8⟩
  iapply (step2 d main_v3_2 main_v9 (by decide) rfl rfl rfl (outOf (gW1 (fl (flat m d))) : Buf (Elt F) ((SparseCore.T d : Thread nD τ).loc main_v3_2)) _ (colF (outOf (gW1 (fl (flat m d)))) : Buf (Elt F) ((SparseCore.T d : Thread nD τ).loc main_v9))
    (fun V hV => (StableHlo.unary_result _ _ _ _ _ V).trans (by rw [hV]; rfl)))
  isplitl [Hb]; · iexact Hb
  isplitl [Hv3_2]; · iexact Hv3_2
  isplitl [Hv9]; · iexact Hv9
  iintro ⟨Hb, Hv3_2, Hv9⟩
  iapply (step2 d main_v3_3 main_v10 (by decide) rfl rfl rfl (outOf (gW2 (fl (flat m d))) : Buf (Elt F) ((SparseCore.T d : Thread nD τ).loc main_v3_3)) _ (colF (outOf (gW2 (fl (flat m d)))) : Buf (Elt F) ((SparseCore.T d : Thread nD τ).loc main_v10))
    (fun V hV => (StableHlo.unary_result _ _ _ _ _ V).trans (by rw [hV]; rfl)))
  isplitl [Hb]; · iexact Hb
  isplitl [Hv3_3]; · iexact Hv3_3
  isplitl [Hv10]; · iexact Hv10
  iintro ⟨Hb, Hv3_3, Hv10⟩
  iapply (step3 d main_v9 main_v10 main_v11 (by decide) (by decide) (by decide) rfl rfl rfl (colF (outOf (gW1 (fl (flat m d)))) : Buf (Elt F) ((SparseCore.T d : Thread nD τ).loc main_v9))
    (colF (outOf (gW2 (fl (flat m d)))) : Buf (Elt F) ((SparseCore.T d : Thread nD τ).loc main_v10)) _ (res11 m d : Buf (Elt F) ((SparseCore.T d : Thread nD τ).loc main_v11))
    (fun V hV hV' => (StableHlo.binary_result _ _ _ _ _ _ _ V).trans (by rw [hV, hV']; rfl)))
  isplitl [Hb]; · iexact Hb
  isplitl [Hv9]; · iexact Hv9
  isplitl [Hv10]; · iexact Hv10
  isplitl [Hv11]; · iexact Hv11
  iintro ⟨Hb, Hv9, Hv10, Hv11⟩
  imodintro
  isplitl [Hdue Hst]; · isplitl [Hdue] <;> iassumption
  isplitr [Hb Hts]
  · unfold FIN
    isplitl [Ha0]; · iexact Ha0
    isplitl [Ha1]; · iexact Ha1
    isplitl [Harg2]; · iexact Harg2
    isplitl [Hv8]; · iexact Hv8
    isplitl [Hv11]; · iexact Hv11
    iexact Hv5
  isplitl [Hb] <;> iassumption

def fq (d : Dev nD) (s' : Phys nD τ sig (Elt F)) : Prop :=
  s'.mem.mem ((SparseCore.T d : Thread nD τ).loc main_arg0) = aX m d ∧ s'.mem.mem ((SparseCore.T d : Thread nD τ).loc main_arg1) = aW m d
    ∧ s'.mem.mem ((SparseCore.T d : Thread nD τ).loc main_arg2) = m ((SparseCore.T d : Thread nD τ).loc main_arg2)
    ∧ s'.mem.mem ((SparseCore.T d : Thread nD τ).loc main_v8) = res8 m d ∧ s'.mem.mem ((SparseCore.T d : Thread nD τ).loc main_v11) = res11 m d
    ∧ s'.mem.mem ((SparseCore.T d : Thread nD τ).loc main_v5) = res5 m d

theorem hfin (d : Dev nD) (s' : Phys nD τ sig (Elt F)) : iprop(FIN m d ∗ SI s') ⊢ (⌜fq m d s'⌝ : sProp (MM F)) := by
  unfold FIN
  iintro ⟨⟨H0, H1, H2, H3, H4, H5⟩, HSI⟩
  ihave H := (persistent_entails_right (SI_pointsTo_agree (st := s') (ℓ := (SparseCore.T d : Thread nD τ).loc main_arg0) (I := Finset.univ) (q := fullShare) (f := aX m d))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := aW m d))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := m ((SparseCore.T d : Thread nD τ).loc main_arg2)))) $$ [HSI H2]
  · isplitl [HSI] <;> iassumption
  icases H with ⟨%h2, HSI, -⟩
  ihave H := (persistent_entails_right (SI_pointsTo_agree (st := s') (ℓ := (SparseCore.T d : Thread nD τ).loc main_v8) (I := Finset.univ) (q := fullShare) (f := res8 m d))) $$ [HSI H3]
  · isplitl [HSI] <;> iassumption
  icases H with ⟨%h3, HSI, -⟩
  ihave H := (persistent_entails_right (SI_pointsTo_agree (st := s') (ℓ := (SparseCore.T d : Thread nD τ).loc main_v11) (I := Finset.univ) (q := fullShare) (f := res11 m d))) $$ [HSI H4]
  · isplitl [HSI] <;> iassumption
  icases H with ⟨%h4, HSI, -⟩
  ihave H := (persistent_entails_right (SI_pointsTo_agree (st := s') (ℓ := (SparseCore.T d : Thread nD τ).loc main_v5) (I := Finset.univ) (q := fullShare) (f := res5 m d))) $$ [HSI H5]
  · isplitl [HSI] <;> iassumption
  icases H with ⟨%h5, HSI, -⟩
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩

/-- How the program ends: the arguments kept, the results as stated, every semaphore at zero. -/
def QC : PUnit × MemSt nD τ sig (Elt F) → Prop := fun r =>
  (∀ c : Dev nD, r.2.mem ((SparseCore.T c : Thread nD τ).loc main_arg0) = aX m c ∧ r.2.mem ((SparseCore.T c : Thread nD τ).loc main_arg1) = aW m c
    ∧ r.2.mem ((SparseCore.T c : Thread nD τ).loc main_arg2) = m ((SparseCore.T c : Thread nD τ).loc main_arg2)
    ∧ r.2.mem ((SparseCore.T c : Thread nD τ).loc main_v8) = res8 m c ∧ r.2.mem ((SparseCore.T c : Thread nD τ).loc main_v11) = res11 m c
    ∧ r.2.mem ((SparseCore.T c : Thread nD τ).loc main_v5) = res5 m c) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (flat m)) (A := ∅) facts v₀
    (fun q hq => match q with | 0 => nomatch hq)
    (fun q _ => match q with | 0 => tileObl m (flat m) facts)
    (fun q _ => match q with | 0 => SparseCore.Cfg.VecSplit.of_plain (vecSplit m (flat m)))
    m ρ main (fun d => ticks d) (FIN m) (u₀ (F := F)) (sep_elim_left.trans (hu₀ m)) (hmain m ρ) (fq m) (hfin m) (QC m) (fun _ h hz => ⟨h, hz⟩)

end Launch

end Cert.Proof

end
-- ==== Proof.Arrays.lean ====
/-
  What the two TensorCore calls leave: the logits of every token, and the auxiliary loss of the lane sums.
-/
module

public import proofs.«01_k».proof.Proof.Main

public import Idealize.ShloMosaic.Lib.Pipeline.ValueKit
public import Idealize.ShloMosaic.Lib.MatmulPlain

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The logit of token `s` for expert `e`. -/
def lgv (x : S16384x2048.Idx → EReal) (w : S16x2048.Idx → EReal) (b : Fin 16 → EReal) (s : Fin 16384) (e : Fin 16) : EReal :=
  (∑ k : Fin 2048, x (ix2 s k) * w (ix2 e k)) + b e

/-- The product of the first call at an index. -/
theorem pay6_apply (w : FVec Ideal S16x2048 .f32) (x : FVec Ideal S1024x2048 .f32) (b : FVec Ideal S16x1 .f32) (e : Fin 16) (s : Fin 1024) :
    (k0_pay6 (F := Ideal) w x b (ix2 e s) : EReal) = (∑ k : Fin 2048, x (ix2 s k) * w (ix2 e k)) + b (ix2 e 0) := by
  have h1 : (FloatOps.matmul dot_S16x2048_S1024x2048_S16x1024_1_1_0_0_n_n none w x (constant S16x1024 .f32 0x00000000#32) (ix2 e s) : EReal)
      = ∑ k : Fin 2048, x (ix2 s k) * w (ix2 e k) := by
    refine (Ideal.matmul_transposedRhs_apply (M := 16) (K := 2048) (N := 1024) none w x (constant S16x1024 .f32 0x00000000#32) e s).trans ?_
    refine (congrArg (· + _) (show (constant (F := Ideal) S16x1024 .f32 0x00000000#32 (ix2 e s) : EReal) = 0 from Ideal.ofBits_zero_f32)).trans ?_
    rw [zero_add]
    exact Finset.sum_congr rfl fun k _ => mul_comm _ _
  have h2 : broadcastTo S16x1024 (shapeCast S16x1 b shapeCasts_S16x1_S16x1) broadcasts_S16x1_S16x1024 (ix2 e s) = b (ix2 e 0) := by
    rw [shapeCast_self]
    refine broadcastTo_apply _ _ _ _ fun a => ?_
    match a with
    | 0 => rfl
    | 1 => rfl
  exact congrArg₂ (· + ·) h1 h2

theorem cov3 : (cfg0.win 3).Covers := by decide +kernel
theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])
theorem ix0_3 : ∀ t : Fin cfg0.N, win0_3.index t = ![0, t.val, 0, 0] := (by decide +kernel : ∀ t : Fin grid0.N, win0_3.index t = ![0, t.val, 0, 0])

section

variable (x : (c : Dev nD) → Buf (Elt Ideal) ((SparseCore.T c : Thread nD τ).loc main_arg0)) (w : (c : Dev nD) → Buf (Elt Ideal) ((SparseCore.T c : Thread nD τ).loc main_arg1))
  (b : (c : Dev nD) → Buf (Elt Ideal) ((SparseCore.T c : Thread nD τ).loc main_v0)) (y : (c : Dev nD) → Buf (Elt Ideal) ((SparseCore.T c : Thread nD τ).loc main_v1))

/-- The array of logits at an index. -/
def lgArr (x : S16384x2048.Idx → EReal) (w : S16x2048.Idx → EReal) (b : S16x1.Idx → EReal) : S2x128x8x128.Idx → EReal := fun i =>
  lgv x w (fun e => b (ix2 e 0)) ⟨128 * (i 1).val + (i 3).val, by have h1 : (i 1).val < 128 := (i 1).isLt; have h3 : (i 3).val < 128 := (i 3).isLt; omega⟩
    ⟨8 * (i 0).val + (i 2).val, by have h1 : (i 0).val < 2 := (i 0).isLt; have h3 : (i 2).val < 8 := (i 2).isLt; omega⟩

theorem bx_apply (c : Dev nD) (t : Fin cfg0.N) (s : Fin 1024) (k : Fin 2048) (r : Fin 16384) (hr : r.val = 1024 * t.val + s.val) :
    bx x c t (ix2 s k) = (x c : S16384x2048.Idx → EReal) (ix2 r k) := by
  unfold bx
  blk_simp
  refine congrArg (x c : S16384x2048.Idx → EReal) (funext fun a => Fin.ext ?_)
  match a with
  | 0 =>
    blk_simp
    rw [ix0_0]
    show t.val * 1024 + s.val = r.val
    omega
  | 1 =>
    blk_simp
    rw [ix0_0]
    show 0 * 2048 + k.val = k.val
    omega

theorem bw_apply (c : Dev nD) (t : Fin cfg0.N) (s : Fin 16) (k : Fin 2048) :
    bw w c t (ix2 s k) = (w c : S16x2048.Idx → EReal) (ix2 s k) := by
  unfold bw
  blk_simp
  refine congrArg (w c : S16x2048.Idx → EReal) (funext fun a => Fin.ext ?_)
  match a with
  | 0 =>
    blk_simp
    rw [ix0_1]
    show 0 * 16 + s.val = s.val
    omega
  | 1 =>
    blk_simp
    rw [ix0_1]
    show 0 * 2048 + k.val = k.val
    omega

theorem bb_apply (c : Dev nD) (t : Fin cfg0.N) (s : Fin 16) :
    bb b c t (ix2 s 0) = (b c : S16x1.Idx → EReal) (ix2 s 0) := by
  unfold bb
  blk_simp
  refine congrArg (b c : S16x1.Idx → EReal) (funext fun a => Fin.ext ?_)
  match a with
  | 0 =>
    blk_simp
    rw [ix0_2]
    show 0 * 16 + s.val = s.val
    omega
  | 1 =>
    blk_simp
    rw [ix0_2]
    rfl

theorem blk_apply (c : Dev nD) (t : Fin cfg0.N) (z : S2x8x8x128.Idx) (i : S2x128x8x128.Idx) (h0 : (i 0).val = (z 0).val) (h1 : (i 1).val = 8 * t.val + (z 1).val)
    (h2 : (i 2).val = (z 2).val) (h3 : (i 3).val = (z 3).val) :
    (blk (F := Ideal) (bw w c t) (bx x c t) (bb b c t) z : EReal) = lgArr (x c) (w c) (b c) i := by
  have z0 : (z 0).val < 2 := (z 0).isLt
  have z1 : (z 1).val < 8 := (z 1).isLt
  have z2 : (z 2).val < 8 := (z 2).isLt
  have z3 : (z 3).val < 128 := (z 3).isLt
  let e : Fin 16 := ⟨8 * (z 0).val + (z 2).val, by omega⟩
  let s : Fin 1024 := ⟨128 * (z 1).val + (z 3).val, by omega⟩
  have ht : t.val < 16 := t.isLt
  let r : Fin 16384 := ⟨1024 * t.val + s.val, by have := s.isLt; omega⟩
  have hk : (blk (F := Ideal) (bw w c t) (bx x c t) (bb b c t) z : EReal) = k0_pay6 (F := Ideal) (bw w c t) (bx x c t) (bb b c t) (ix2 e s) := by
    unfold blk
    refine congrArg _ (funext fun a => ?_)
    match a with
    | 0 => rfl
    | 1 => rfl
  rw [hk, pay6_apply]
  unfold lgArr lgv
  have hs : (⟨128 * (i 1).val + (i 3).val, by have h1 : (i 1).val < 128 := (i 1).isLt; have h3 : (i 3).val < 128 := (i 3).isLt; omega⟩ : Fin 16384) = r :=
    Fin.ext (by show 128 * (i 1).val + (i 3).val = 1024 * t.val + (128 * (z 1).val + (z 3).val); omega)
  have he : (⟨8 * (i 0).val + (i 2).val, by have h1 : (i 0).val < 2 := (i 0).isLt; have h3 : (i 2).val < 8 := (i 2).isLt; omega⟩ : Fin 16) = e :=
    Fin.ext (by show 8 * (i 0).val + (i 2).val = 8 * (z 0).val + (z 2).val; omega)
  rw [hs, he, bb_apply]
  refine congrArg (· + _) (Finset.sum_congr rfl fun k _ => ?_)
  rw [bw_apply, bx_apply x c t s k r rfl]

theorem arr0 (c : Dev nD) : (dat0 x w b y c).arrAt 3 cfg0.N = lgArr (x c) (w c) (b c) := by
  refine (dat0 x w b y c).arrAt_eq_of_covers 3 _ cov3 fun t hf z => ?_
  blk_simp
  refine blk_apply x w b c t z _ ?_ ?_ ?_ ?_ <;> (blk_simp; rw [ix0_3])
  · show 0 * 2 + (z 0).val = (z 0).val; omega
  · show t.val * 8 + (z 1).val = 8 * t.val + (z 1).val; omega
  · show 0 * 8 + (z 2).val = (z 2).val; omega
  · show 0 * 128 + (z 3).val = (z 3).val; omega

end

section

variable (ip : (c : Dev nD) → Buf (Elt Ideal) ((SparseCore.T c : Thread nD τ).loc main_v3_4)) (ld : (c : Dev nD) → Buf (Elt Ideal) ((SparseCore.T c : Thread nD τ).loc main_v3_5))
  (z : (c : Dev nD) → Buf (Elt Ideal) ((SparseCore.T c : Thread nD τ).loc main_v4))

theorem ix2_0 : ∀ t : Fin cfg2.N, win2_0.index t = ![0, 0] := (by decide +kernel : ∀ t : Fin grid2.N, win2_0.index t = ![0, 0])
theorem ix2_1 : ∀ t : Fin cfg2.N, win2_1.index t = ![0, 0] := (by decide +kernel : ∀ t : Fin grid2.N, win2_1.index t = ![0, 0])

theorem bi_eq (c : Dev nD) (t : Fin cfg2.N) : bi ip c t = (ip c : S32x16.Idx → EReal) := by
  funext j
  unfold bi
  blk_simp
  refine congrArg (ip c : S32x16.Idx → EReal) (funext fun a => Fin.ext ?_)
  match a with
  | 0 =>
    blk_simp
    rw [ix2_0]
    show 0 * 32 + (j 0).val = (j 0).val
    omega
  | 1 =>
    blk_simp
    rw [ix2_0]
    show 0 * 16 + (j 1).val = (j 1).val
    omega

theorem bl_eq (c : Dev nD) (t : Fin cfg2.N) : bl ld c t = (ld c : S32x16.Idx → EReal) := by
  funext j
  unfold bl
  blk_simp
  refine congrArg (ld c : S32x16.Idx → EReal) (funext fun a => Fin.ext ?_)
  match a with
  | 0 =>
    blk_simp
    rw [ix2_1]
    show 0 * 32 + (j 0).val = (j 0).val
    omega
  | 1 =>
    blk_simp
    rw [ix2_1]
    show 0 * 16 + (j 1).val = (j 1).val
    omega

theorem arr1 (c : Dev nD) : (dat1 ip ld z c).arrAt 2 cfg2.N = (fun _ => k2_pay1 (F := Ideal) (ip c) (ld c) : S1x1.Idx → EReal) := by
  refine (dat1 ip ld z c).arrAt_eq_of_after_last 2 ⟨0, by decide⟩ (by decide +kernel) _ fun j => ?_
  blk_simp
  exact congrArg₂ (k2_pay1 (F := Ideal)) (bi_eq ip c _) (bl_eq ld c _)

end

end Cert.Proof

end
-- ==== Proof.Top2.lean ====
/-
  The two greatest of sixteen values with their places: what makes them the two, that only one pair is, and that the
  kernel's running pair and a stable sort's first two places both find it.
-/
module

public import proofs.«01_k».proof.Proof.TileSpec
public import Idealize.ShloMosaic.Lib.SortFacts
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- Place `a` comes before place `b`: its value is greater, or the same and its place earlier. -/
def Bef {α : Type} [LinearOrder α] (x : ℕ → α) (a b : ℕ) : Prop := x b < x a ∨ (x a = x b ∧ a < b)

/-- `a` and `b` are the first and the second of the places below `n`. -/
structure IsTop {α : Type} [LinearOrder α] (x : ℕ → α) (n a b : ℕ) : Prop where
  lt_a : a < n
  lt_b : b < n
  ne : a ≠ b
  fst : ∀ e < n, ¬ Bef x e a
  snd : ∀ e < n, e ≠ a → ¬ Bef x e b

theorem bef_total {α : Type} [LinearOrder α] (x : ℕ → α) {a b : ℕ} (h : ¬ Bef x a b) (h' : ¬ Bef x b a) : a = b := by
  unfold Bef at h h'
  push Not at h h'
  have e : x a = x b := le_antisymm h.1 h'.1
  have h1 := h.2 e
  have h2 := h'.2 e.symm
  omega

theorem IsTop.unique {α : Type} [LinearOrder α] {x : ℕ → α} {n a b a' b' : ℕ} (h : IsTop x n a b) (h' : IsTop x n a' b') :
    a = a' ∧ b = b' := by
  have e : a = a' := bef_total x (h'.fst a h.lt_a) (h.fst a' h'.lt_a)
  subst e
  exact ⟨rfl, bef_total x (h'.snd b h.lt_b h.ne.symm) (h.snd b' h'.lt_b h'.ne.symm)⟩

/-- The pair depends only on the order of the values. -/
theorem IsTop.congr {α β : Type} [LinearOrder α] [LinearOrder β] {x : ℕ → α} {y : ℕ → β} {n a b : ℕ}
    (hxy : ∀ i < n, ∀ j < n, x i < x j ↔ y i < y j) (h : IsTop x n a b) : IsTop y n a b := by
  have hb : ∀ i < n, ∀ j < n, Bef x i j ↔ Bef y i j := by
    intro i hi j hj
    unfold Bef
    rw [hxy j hj i hi]
    have : x i = x j ↔ y i = y j := by
      rw [← not_iff_not, ← ne_eq, ← ne_eq, ne_iff_lt_or_gt, ne_iff_lt_or_gt, hxy i hi j hj, hxy j hj i hi]
    rw [this]
  exact ⟨h.lt_a, h.lt_b, h.ne, fun e he => fun q => h.fst e he ((hb e he a h.lt_a).mpr q),
    fun e he hne => fun q => h.snd e he hne ((hb e he b h.lt_b).mpr q)⟩

/-- One more value, greater than the first. -/
theorem IsTop.push_fst {α : Type} [LinearOrder α] {x : ℕ → α} {n a b : ℕ} (h : IsTop x n a b) (hx : x a < x n) :
    IsTop x (n + 1) n a := by
  have h1 : ∀ e < n, x e ≤ x a := fun e he => not_lt.mp fun q => h.fst e he (Or.inl q)
  refine ⟨by omega, by have := h.lt_a; omega, by have := h.lt_a; omega, fun e he => ?_, fun e he hne => ?_⟩
  · rcases Nat.lt_succ_iff_lt_or_eq.mp he with he | rfl
    · have := h1 e he
      rintro (q | q)
      · exact absurd q (not_lt.mpr (this.trans hx.le))
      · exact absurd (this.trans_lt hx) (by rw [q.1]; exact lt_irrefl _)
    · rintro (q | q)
      · exact lt_irrefl _ q
      · exact absurd q.2 (lt_irrefl _)
  · exact h.fst e (by omega)

/-- One more value, greater than the second only. -/
theorem IsTop.push_snd {α : Type} [LinearOrder α] {x : ℕ → α} {n a b : ℕ} (h : IsTop x n a b) (hx : ¬ x a < x n) (hb : x b < x n) :
    IsTop x (n + 1) a n := by
  have ha := h.lt_a
  refine ⟨by omega, by omega, by omega, fun e he => ?_, fun e he hne => ?_⟩
  · rcases Nat.lt_succ_iff_lt_or_eq.mp he with he | rfl
    · exact h.fst e he
    · rintro (q | q)
      · exact hx q
      · omega
  · rcases Nat.lt_succ_iff_lt_or_eq.mp he with he | rfl
    · have : x e ≤ x b := not_lt.mp fun q => h.snd e he hne (Or.inl q)
      rintro (q | q)
      · exact absurd q (not_lt.mpr (this.trans hb.le))
      · exact absurd (this.trans_lt hb) (by rw [q.1]; exact lt_irrefl _)
    · rintro (q | q)
      · exact lt_irrefl _ q
      · omega

/-- One more value, greater than neither. -/
theorem IsTop.push_none {α : Type} [LinearOrder α] {x : ℕ → α} {n a b : ℕ} (h : IsTop x n a b) (hx : ¬ x a < x n) (hb : ¬ x b < x n) :
    IsTop x (n + 1) a b := by
  have ha := h.lt_a
  have hb' := h.lt_b
  refine ⟨by omega, by omega, h.ne, fun e he => ?_, fun e he hne => ?_⟩
  · rcases Nat.lt_succ_iff_lt_or_eq.mp he with he | rfl
    · exact h.fst e he
    · rintro (q | q)
      · exact hx q
      · omega
  · rcases Nat.lt_succ_iff_lt_or_eq.mp he with he | rfl
    · exact h.snd e he hne
    · rintro (q | q)
      · exact hb q
      · omega

/-! ## The kernel's running pair -/

theorem sel_ogt {α : Type} (x y : Ideal .f32) (a b : α) :
    (if (FloatOps.cmpf (F := Ideal) .ogt x y) = 1#1 then a else b) = if (y : EReal) < (x : EReal) then a else b := by
  show (if Ideal.cmp .ogt x y = 1#1 then a else b) = _
  unfold Ideal.cmp
  by_cases h : (y : EReal) < (x : EReal) <;> simp [h]

theorem tour_m1 (x : ℕ → FV Ideal) (n : ℕ) (q : S16.Idx) : (tour x (n + 1)).m1 q
    = if ((tour x n).m1 q : EReal) < x (n + 1) q then x (n + 1) q else (tour x n).m1 q := sel_ogt _ _ _ _
theorem tour_m2 (x : ℕ → FV Ideal) (n : ℕ) (q : S16.Idx) : (tour x (n + 1)).m2 q
    = if ((tour x n).m1 q : EReal) < x (n + 1) q then (tour x n).m1 q
      else if ((tour x n).m2 q : EReal) < x (n + 1) q then x (n + 1) q else (tour x n).m2 q :=
  (sel_ogt _ _ _ _).trans (congrArg _ (sel_ogt _ _ _ _))
theorem tour_i1 (x : ℕ → FV Ideal) (n : ℕ) (q : S16.Idx) : (tour x (n + 1)).i1 q
    = if ((tour x n).m1 q : EReal) < x (n + 1) q then BitVec.ofNat 32 (n + 1) else (tour x n).i1 q := sel_ogt _ _ _ _
theorem tour_i2 (x : ℕ → FV Ideal) (n : ℕ) (q : S16.Idx) : (tour x (n + 1)).i2 q
    = if ((tour x n).m1 q : EReal) < x (n + 1) q then (tour x n).i1 q
      else if ((tour x n).m2 q : EReal) < x (n + 1) q then BitVec.ofNat 32 (n + 1) else (tour x n).i2 q :=
  (sel_ogt _ _ _ _).trans (congrArg _ (sel_ogt _ _ _ _))

theorem ofBits_neg_one : (Ideal.ofBits .f32 0xBF800000#32 : EReal) = ((-1 : ℝ) : EReal) := by
  simp [Ideal.ofBits, Ideal.ieee, -EReal.coe_mul, -EReal.coe_neg]; norm_num

/-- The running pair over values that are not negative is the two greatest with their places. -/
theorem tour_isTop (x : ℕ → FV Ideal) (q : S16.Idx) (h0 : ∀ e < 16, (0 : EReal) ≤ x e q) (n : ℕ) (hn : n + 1 < 16) :
    ∃ a b : ℕ, IsTop (fun e => (x e q : EReal)) (n + 2) a b ∧ (tour x (n + 1)).i1 q = BitVec.ofNat 32 a
      ∧ (tour x (n + 1)).i2 q = BitVec.ofNat 32 b ∧ (tour x (n + 1)).m1 q = x a q ∧ (tour x (n + 1)).m2 q = x b q := by
  induction n with
  | zero =>
    rw [tour_i1, tour_i2, tour_m1, tour_m2]
    have hneg : ((tour x 0).m2 q : EReal) < x 1 q := by
      refine lt_of_lt_of_le ?_ (h0 1 (by omega))
      show (Ideal.ofBits .f32 0xBF800000#32 : EReal) < 0
      rw [ofBits_neg_one]
      exact_mod_cast (by norm_num : (-1 : ℝ) < 0)
    by_cases h : (x 0 q : EReal) < x 1 q
    · refine ⟨1, 0, ⟨by omega, by omega, by omega, ?_, ?_⟩, ?_⟩
      · intro e he
        obtain rfl | rfl : e = 0 ∨ e = 1 := by omega
        · rintro (q | q)
          · exact absurd q (not_lt.mpr h.le)
          · exact absurd q.1 h.ne
        · rintro (q | q)
          · exact lt_irrefl _ q
          · omega
      · intro e he hne
        obtain rfl : e = 0 := by omega
        rintro (q | q)
        · exact lt_irrefl _ q
        · omega
      · have h' : ((tour x 0).m1 q : EReal) < x 1 q := h
        exact ⟨if_pos h', if_pos h', if_pos h', if_pos h'⟩
    · refine ⟨0, 1, ⟨by omega, by omega, by omega, ?_, ?_⟩, ?_⟩
      · intro e he
        obtain rfl | rfl : e = 0 ∨ e = 1 := by omega
        · rintro (q | q)
          · exact lt_irrefl _ q
          · omega
        · rintro (q | q)
          · exact h q
          · omega
      · intro e he hne
        obtain rfl : e = 1 := by omega
        rintro (q | q)
        · exact lt_irrefl _ q
        · omega
      · have h' : ¬ ((tour x 0).m1 q : EReal) < x 1 q := h
        exact ⟨if_neg h', (if_neg h').trans (if_pos hneg), if_neg h', (if_neg h').trans (if_pos hneg)⟩
  | succ n ih =>
    obtain ⟨a, b, ht, e1, e2, e3, e4⟩ := ih (by omega)
    rw [tour_i1 x (n + 1), tour_i2 x (n + 1), tour_m1 x (n + 1), tour_m2 x (n + 1), e1, e2, e3, e4]
    by_cases h : (x a q : EReal) < x (n + 2) q
    · exact ⟨n + 2, a, ht.push_fst h, if_pos h, if_pos h, if_pos h, if_pos h⟩
    · by_cases h2 : (x b q : EReal) < x (n + 2) q
      · exact ⟨a, n + 2, ht.push_snd h h2, if_neg h, (if_neg h).trans (if_pos h2), if_neg h, (if_neg h).trans (if_pos h2)⟩
      · exact ⟨a, b, ht.push_none h h2, if_neg h, (if_neg h).trans (if_neg h2), if_neg h, (if_neg h).trans (if_neg h2)⟩

/-! ## A stable sort's first two places -/

/-- Sorting a list of places in order, ties keep their order. -/
theorem stableSort_ties {α : Type} [LinearOrder α] {n : ℕ} (x : ℕ → α) (R R' : Fin n → Fin n → Bool)
    (hR : ∀ a b : Fin n, R a b = true ↔ x b < x a) (hR' : ∀ a b : Fin n, R' a b = true ↔ Bef x a b) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => ?_
    have hab : a < b := hl.1 b ((perm_stableSort R' l).mem_iff.mp hb)
    have hiff : R b a = true ↔ R' b a = true := by
      rw [hR, hR']
      unfold Bef
      constructor
      · exact Or.inl
      · rintro (q | q)
        · exact q
        · exact absurd q.2 (by simp only [not_lt]; exact hab.le)
    cases h1 : R b a <;> cases h2 : R' b a <;> simp_all

theorem get_cast_congr {α : Type} {n : ℕ} {l l' : List α} (h : l = l') (p : n = l.length) (p' : n = l'.length) (k : Fin n) :
    l.get (k.cast p) = l'.get (k.cast p') := by
  subst h
  rfl

theorem sortedFrom_isTop {α : Type} [LinearOrder α] (x : ℕ → α) (R : Fin 16 → Fin 16 → Bool)
    (hR : ∀ a b : Fin 16, R a b = true ↔ x b < x a) : IsTop x 16 (sortedFrom R 0).val (sortedFrom R 1).val := by
  classical
  let R' : Fin 16 → Fin 16 → Bool := fun a b => decide (Bef x a b)
  have hR' : ∀ a b : Fin 16, R' a b = true ↔ Bef x a b := fun a b => decide_eq_true_iff
  have hpos : sortPositions 16 R = sortPositions 16 R' :=
    stableSort_ties x R R' hR hR' _ (List.pairwise_lt_finRange 16)
  have hs : sortedFrom R = sortedFrom R' := by
    funext k
    exact get_cast_congr hpos _ _ k
  rw [hs]
  have asym : ∀ a b : ℕ, Bef x a b → ¬ Bef x b a := by
    rintro a b (q | q) (r | r)
    · exact lt_asymm q r
    · exact absurd q (by rw [r.1]; exact lt_irrefl _)
    · exact absurd r (by rw [q.1]; exact lt_irrefl _)
    · omega
  have hno := sortedFrom_noInversion R' R'
    (fun a b h => by simpa [R'] using asym a b ((hR' a b).mp h)) (fun _ _ h => h)
    (fun a b c h h' => by
      simp only [R', decide_eq_false_iff_not] at h h' ⊢
      unfold Bef at *
      push Not at h h' ⊢
      refine ⟨h.1.trans h'.1, fun e => ?_⟩
      have e1 : x a = x b := le_antisymm h.1 (h'.1.trans e.ge)
      have e2 : x b = x c := e1.symm.trans e
      exact (h'.2 e2).trans (h.2 e1))
  have hno' : ∀ i j : Fin 16, i < j → ¬ Bef x (sortedFrom R' j) (sortedFrom R' i) := fun i j hij => by
    have := hno i j hij
    simpa [R'] using this
  have self : ∀ a : ℕ, ¬ Bef x a a := by
    rintro a (q | q)
    · exact lt_irrefl _ q
    · omega
  refine ⟨Fin.isLt _, Fin.isLt _, ?_, ?_, ?_⟩
  · intro h
    have := sortedFrom_injective R' (Fin.ext h)
    exact absurd this (by decide)
  · intro e he
    obtain ⟨k, hk⟩ := sortedFrom_surjective R' ⟨e, he⟩
    have hk' : e = (sortedFrom R' k).val := (congrArg Fin.val hk).symm
    by_cases hk0 : k = 0
    · subst hk0; rw [hk']; exact self _
    · rw [hk']
      exact hno' 0 k (Fin.pos_of_ne_zero hk0)
  · intro e he hne
    obtain ⟨k, hk⟩ := sortedFrom_surjective R' ⟨e, he⟩
    have hk' : e = (sortedFrom R' k).val := (congrArg Fin.val hk).symm
    have hk0 : k ≠ 0 := by rintro rfl; exact hne hk'
    by_cases hk1 : k = 1
    · subst hk1; rw [hk']; exact self _
    · rw [hk']
      refine hno' 1 k ?_
      have h0 : k.val ≠ 0 := fun h => hk0 (Fin.ext h)
      have h1 : k.val ≠ 1 := fun h => hk1 (Fin.ext h)
      show (1 : ℕ) < k.val
      omega

end Cert.Proof

end
-- ==== Proof.Token.lean ====
/-
  One token over the extended reals: the softmax of its sixteen logits, the two greatest and their weights, and what the
  subcore's lanes hold of it.
-/
module

public import proofs.«01_k».proof.Proof.Top2
public import Idealize.ShloMosaic.Lib.IdealHost

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The greatest of sixteen values. -/
def mx (f : ℕ → EReal) : EReal := (Finset.range 16).sup f
/-- The exponential of a value less the greatest. -/
def ex (f : ℕ → EReal) (e : ℕ) : EReal := Ideal.exp (f e - mx f)
/-- The sum of the sixteen exponentials. -/
def den (f : ℕ → EReal) : EReal := ∑ e ∈ Finset.range 16, ex f e
/-- The softmax. -/
def pb (f : ℕ → EReal) (e : ℕ) : EReal := Ideal.div (ex f e) (den f)

/-- All sixteen values are real numbers. -/
def Fin16 (f : ℕ → EReal) : Prop := ∀ e < 16, ∃ r : ℝ, f e = (r : EReal)

theorem mx_real {f : ℕ → EReal} (h : Fin16 f) : ∃ r : ℝ, mx f = (r : EReal) := by
  obtain ⟨e, he, hm⟩ := Finset.exists_mem_eq_sup (Finset.range 16) ⟨0, by simp⟩ f
  obtain ⟨r, hr⟩ := h e (Finset.mem_range.mp he)
  exact ⟨r, hm.trans hr⟩

theorem ex_real {f : ℕ → EReal} (h : Fin16 f) : ∃ u : ℕ → ℝ, ∃ D : ℝ, (∀ e < 16, 0 < u e ∧ ex f e = (u e : EReal)) ∧ 0 < D ∧ den f = (D : EReal) := by
  obtain ⟨r, hr⟩ := mx_real h
  have h1 : ∀ e < 16, ∃ u : ℝ, 0 < u ∧ ex f e = (u : EReal) := by
    intro e he
    obtain ⟨s, hs⟩ := h e he
    refine ⟨Real.exp (s - r), Real.exp_pos _, ?_⟩
    unfold ex
    rw [hr, hs, ← EReal.coe_sub]
    rfl
  choose! u hu using h1
  refine ⟨u, ∑ e ∈ Finset.range 16, u e, hu, Finset.sum_pos (fun e he => (hu e (Finset.mem_range.mp he)).1) ⟨0, by simp⟩, ?_⟩
  unfold den
  rw [Finset.sum_congr rfl fun e he => (hu e (Finset.mem_range.mp he)).2]
  exact (map_sum (⟨⟨fun x : ℝ => (x : EReal), rfl⟩, EReal.coe_add⟩ : ℝ →+ EReal) u (Finset.range 16)).symm

theorem ex_nonneg (f : ℕ → EReal) (e : ℕ) : 0 ≤ ex f e := by
  unfold ex
  generalize f e - mx f = y
  induction y using EReal.rec with
  | bot => exact le_refl _
  | coe r => exact EReal.coe_nonneg.mpr (Real.exp_pos r).le
  | top => exact le_top

theorem div_real {a b : ℝ} (hb : b ≠ 0) : Ideal.div (a : EReal) (b : EReal) = ((a / b : ℝ) : EReal) := by
  rw [Ideal.div_coe hb, ← EReal.coe_mul]
  congr 1
  field_simp

/-- The softmax as the kernel takes it: the product with the reciprocal of the sum. -/
theorem pb_mul {f : ℕ → EReal} (h : Fin16 f) (e : ℕ) (he : e < 16) : ex f e * Ideal.div 1 (den f) = pb f e := by
  obtain ⟨u, D, hu, hD, hden⟩ := ex_real h
  unfold pb
  rw [hden, (hu e he).2, Ideal.div_coe hD.ne', Ideal.div_coe hD.ne', one_mul]

theorem pb_lt {f : ℕ → EReal} (h : Fin16 f) : ∀ i < 16, ∀ j < 16, ex f i < ex f j ↔ pb f i < pb f j := by
  intro i hi j hj
  obtain ⟨u, D, hu, hD, hden⟩ := ex_real h
  unfold pb
  rw [hden, (hu i hi).2, (hu j hj).2, div_real hD.ne', div_real hD.ne', EReal.coe_lt_coe_iff, EReal.coe_lt_coe_iff]
  exact (div_lt_div_iff_of_pos_right hD).symm

/-- The two weights: the exponentials over their sum, or the probabilities over theirs. -/
theorem weight {f : ℕ → EReal} (h : Fin16 f) {a b c : ℕ} (ha : a < 16) (hb : b < 16) (hc : c < 16) :
    ex f c * Ideal.div 1 (ex f a + ex f b) = Ideal.div (pb f c) (pb f a + pb f b) := by
  obtain ⟨u, D, hu, hD, hden⟩ := ex_real h
  have h1 := (hu a ha).1
  have h2 := (hu b hb).1
  have hs : u a + u b ≠ 0 := (add_pos h1 h2).ne'
  have hp : u a / D + u b / D ≠ 0 := (add_pos (div_pos h1 hD) (div_pos h2 hD)).ne'
  unfold pb
  rw [hden, (hu a ha).2, (hu b hb).2, (hu c hc).2, div_real hD.ne', div_real hD.ne', div_real hD.ne', ← EReal.coe_add, ← EReal.coe_add,
    Ideal.div_coe hs, one_mul, div_real hp, ← EReal.coe_mul]
  congr 1
  have hD' := hD.ne'
  field_simp

/-! ## The subcore's lanes -/

/-- The sixteen logits of a lane. -/
abbrev at16 (v : ℕ → FV Ideal) (q : S16.Idx) : ℕ → EReal := fun e => v e q

theorem mxs_apply (v : ℕ → FV Ideal) (q : S16.Idx) (n : ℕ) : (mxs v n q : EReal) = (Finset.range (n + 1)).sup (at16 v q) := by
  induction n with
  | zero => simp [mxs]
  | succ n ih =>
    rw [Finset.range_add_one, Finset.sup_insert, ← ih, max_comm]
    rfl

theorem esv_apply (v : ℕ → FV Ideal) (e : ℕ) (q : S16.Idx) : (esv v e q : EReal) = ex (at16 v q) e := by
  show Ideal.exp ((v e q : EReal) - (mxs v 15 q : EReal)) = _
  rw [mxs_apply]
  rfl

theorem sums_apply (g : ℕ → FV Ideal) (q : S16.Idx) (n : ℕ) : (sums g n q : EReal) = ∑ e ∈ Finset.range (n + 1), (g e q : EReal) := by
  induction n with
  | zero => simp [sums]
  | succ n ih =>
    rw [Finset.sum_range_succ, ← ih]
    rfl

theorem one_lane (q : S16.Idx) : (broadcast S16 (Scalar.ofBits (F := Ideal) .f32 0x3F800000#32) q : EReal) = 1 := Ideal.ofBits_one_f32

theorem zero_lane (q : S16.Idx) : (broadcast S16 (Scalar.ofBits (F := Ideal) .f32 0x00000000#32) q : EReal) = 0 := Ideal.ofBits_zero_f32

theorem invs_apply (v : ℕ → FV Ideal) (q : S16.Idx) : (invs v q : EReal) = Ideal.div 1 (den (at16 v q)) := by
  show Ideal.div (broadcast S16 (Scalar.ofBits (F := Ideal) .f32 0x3F800000#32) q) (sums (esv v) 15 q) = _
  rw [one_lane, sums_apply]
  unfold den
  congr 1
  exact Finset.sum_congr rfl fun e _ => esv_apply v e q

theorem prob_lane (v : ℕ → FV Ideal) (e : ℕ) (he : e < 16) (q : S16.Idx) (h : Fin16 (at16 v q)) :
    (mulf (esv v e) (invs v) q : EReal) = pb (at16 v q) e := by
  show (esv v e q : EReal) * (invs v q : EReal) = _
  rw [esv_apply, invs_apply, pb_mul h e he]

/-- What the subcore finds of a token: the places of the two greatest probabilities and the two weights. -/
theorem top_lane (v : ℕ → FV Ideal) (q : S16.Idx) (h : Fin16 (at16 v q)) :
    ∃ a b : ℕ, IsTop (pb (at16 v q)) 16 a b ∧ i1v v q = BitVec.ofNat 32 a ∧ i2v v q = BitVec.ofNat 32 b
      ∧ (w1v v q : EReal) = Ideal.div (pb (at16 v q) a) (pb (at16 v q) a + pb (at16 v q) b)
      ∧ (w2v v q : EReal) = Ideal.div (pb (at16 v q) b) (pb (at16 v q) a + pb (at16 v q) b) := by
  obtain ⟨a, b, ht, e1, e2, e3, e4⟩ := tour_isTop (esv v) q (fun e _ => by rw [esv_apply]; exact ex_nonneg _ _) 14 (by omega)
  have hf : (fun e => (esv v e q : EReal)) = ex (at16 v q) := funext fun e => esv_apply v e q
  rw [hf] at ht
  have hr : (rcp v q : EReal) = Ideal.div 1 (ex (at16 v q) a + ex (at16 v q) b) := by
    show Ideal.div (broadcast S16 (Scalar.ofBits (F := Ideal) .f32 0x3F800000#32) q) (((topv v).m1 q : EReal) + ((topv v).m2 q : EReal)) = _
    rw [one_lane]
    show Ideal.div 1 (((tour (esv v) (14 + 1)).m1 q : EReal) + ((tour (esv v) (14 + 1)).m2 q : EReal)) = _
    rw [e3, e4, esv_apply, esv_apply]
  refine ⟨a, b, ht.congr (pb_lt h), e1, e2, ?_, ?_⟩
  · show ((tour (esv v) (14 + 1)).m1 q : EReal) * (rcp v q : EReal) = _
    rw [hr, e3, esv_apply, weight h ht.lt_a ht.lt_b ht.lt_a]
  · show ((tour (esv v) (14 + 1)).m2 q : EReal) * (rcp v q : EReal) = _
    rw [hr, e4, esv_apply, weight h ht.lt_a ht.lt_b ht.lt_b]

/-- The place of the greatest, as the subcore's word. -/
theorem hot_lane (v : ℕ → FV Ideal) (e : ℕ) (q : S16.Idx) :
    (hot v e q : EReal) = (((if i1v v q = BitVec.ofNat 32 e then 1 else 0 : ℕ) : ℝ) : EReal) := by
  show (if IntOp.cmpi .eq (i1v v q) (BitVec.ofNat 32 e) = 1#1 then (broadcast S16 (Scalar.ofBits (F := Ideal) .f32 0x3F800000#32) q : EReal)
    else (broadcast S16 (Scalar.ofBits (F := Ideal) .f32 0x00000000#32) q : EReal)) = _
  rw [one_lane, zero_lane]
  have hb : BitVec.ofBool false ≠ 1#1 := by decide
  by_cases hh : i1v v q = BitVec.ofNat 32 e
  · simp [hh, IntOp.cmpi]
  · have : (i1v v q == BitVec.ofNat 32 e) = false := beq_eq_false_iff_ne.mpr hh
    simp [hh, IntOp.cmpi, this]

/-! ## The sums over the trips and over the lanes -/

theorem accI_apply (vs : ℕ → ℕ → FV Ideal) (k e : ℕ) (he : e < 16) (q : S16.Idx) (h : ∀ i < k, Fin16 (at16 (vs i) q)) :
    (accI vs k e q : EReal) = ∑ i ∈ Finset.range k, pb (at16 (vs i) q) e := by
  induction k with
  | zero => simp only [Finset.range_zero, Finset.sum_empty]; exact zero_lane q
  | succ k ih =>
    rw [Finset.sum_range_succ, ← ih fun i hi => h i (by omega), ← prob_lane (vs k) e he q (h k (by omega))]
    rfl

/-- How many of the first `k` trips choose expert `e` in lane `q`. -/
def cnt (vs : ℕ → ℕ → FV Ideal) (k e : ℕ) (q : S16.Idx) : ℕ :=
  ∑ i ∈ Finset.range k, if i1v (vs i) q = BitVec.ofNat 32 e then 1 else 0

theorem accL_apply (vs : ℕ → ℕ → FV Ideal) (k e : ℕ) (q : S16.Idx) : (accL vs k e q : EReal) = ((cnt vs k e q : ℝ) : EReal) := by
  induction k with
  | zero =>
    refine (zero_lane q).trans ?_
    simp [cnt]
  | succ k ih =>
    unfold cnt at ih ⊢
    rw [Finset.sum_range_succ, Nat.cast_add, EReal.coe_add, ← ih, ← hot_lane]
    rfl

theorem cnt_le (vs : ℕ → ℕ → FV Ideal) (k e : ℕ) (q : S16.Idx) : cnt vs k e q ≤ k := by
  unfold cnt
  refine (Finset.sum_le_card_nsmul _ _ 1 fun i _ => ?_).trans (by simp)
  split <;> omega

theorem csum_apply (x : FV Ideal) (n : ℕ) (hn : n < 16) : (csum x n (ix 15) : EReal) = ∑ j ∈ Finset.range (n + 1), (x (ix (Fin.ofNat 16 j)) : EReal) := by
  induction n with
  | zero =>
    simp only [Nat.zero_add, Finset.range_one, Finset.sum_singleton]
    exact lane_apply x 0 (ix 15)
  | succ n ih =>
    rw [Finset.sum_range_succ, ← ih (by omega)]
    have hc : cmpi .sge lanes (broadcast S16 (BitVec.ofNat 32 (n + 1))) (ix 15) = 1#1 := by
      have hl : lanes (ix 15) = 15#32 := rfl
      show IntOp.cmpi .sge (lanes (ix 15)) (BitVec.ofNat 32 (n + 1)) = 1#1
      rw [hl]
      have : ∀ m : Fin 15, IntOp.cmpi .sge 15#32 (BitVec.ofNat 32 (m.val + 1)) = 1#1 := by decide
      exact this ⟨n, by omega⟩
    show (csum x n (ix 15) : EReal) + (if _ = 1#1 then (lane x (Fin.ofNat 16 (n + 1)) (ix 15) : EReal) else _) = _
    rw [if_pos hc, lane_apply]

theorem fptosi_nat (n : ℕ) (hn : n ≤ 2 ^ 20) : Ideal.fptosi 32 ((n : ℝ) : EReal) = BitVec.ofNat 32 n := by
  unfold Ideal.fptosi
  rw [Ideal.toIntClamped_coe, if_pos (Nat.cast_nonneg n), Int.floor_natCast, min_eq_right (by norm_num; omega), max_eq_right (by norm_num)]
  exact BitVec.ofInt_natCast 32 n

theorem fold_nat (n : Fin 16 → ℕ) (v : Fin 16 → BitVec 32) (h : ∀ j, v j = BitVec.ofNat 32 (n j)) (l : List (Fin 16)) (a : ℕ) :
    l.foldl (fun r k => r + v k) (BitVec.ofNat 32 a) = BitVec.ofNat 32 (a + (l.map n).sum) := by
  induction l generalizing a with
  | nil => simp
  | cons k l ih =>
    simp only [List.foldl_cons, h k, ← BitVec.ofNat_add, ih, List.map_cons, List.sum_cons]
    rw [Nat.add_assoc]

theorem scan_nat (n : Fin 16 → ℕ) (v : IV) (h : ∀ j, v (ix j) = BitVec.ofNat 32 (n j)) :
    scan .sum v (ix 15) = BitVec.ofNat 32 (∑ j, n j) := by
  have hv : ∀ j : Fin 16, v (Shape.ofLane j) = BitVec.ofNat 32 (n j) := by
    intro j
    rw [← h j]
    congr 1
    funext a
    obtain rfl : a = 0 := Subsingleton.elim _ _
    rfl
  have hl : ((List.finRange 16).filter fun k => decide (0 < k.val ∧ k.val ≤ 15)) = [1, 2, 3, 4, 5, 6, 7, 8, 9, 10, 11, 12, 13, 14, 15] := by decide
  show (((List.finRange 16).filter fun k => decide (0 < k.val ∧ k.val ≤ 15)).foldl (fun r k => r + v (Shape.ofLane k)) (v (Shape.ofLane (0 : Fin 16)))) = _
  rw [hl]
  have h0 : v (Shape.ofLane (0 : Fin 16)) = BitVec.ofNat 32 (n 0) := hv 0
  rw [h0]
  refine (fold_nat n _ hv _ _).trans (congrArg (BitVec.ofNat 32) ?_)
  rw [Fin.sum_univ_def, show List.finRange 16 = [0, 1, 2, 3, 4, 5, 6, 7, 8, 9, 10, 11, 12, 13, 14, 15] from by decide]
  simp only [List.map_cons, List.map_nil, List.sum_cons, List.sum_nil]

theorem toInt_small (s : ℕ) (h : s ≤ 512) : (BitVec.ofNat 32 s).toInt = (s : ℤ) := by
  rw [BitVec.toInt_ofNat', Int.bmod_def]
  omega

theorem sitofp_ix (v : IV) : (sitofp .f32 v : FV Ideal) (ix 15) = ((((v (ix 15)).toInt : ℝ)) : EReal) := rfl

theorem fptosi_ix (x : FV Ideal) (j : Fin 16) : fptosi 32 x (ix j) = Ideal.fptosi 32 (x (ix j)) := rfl

theorem csumI_apply (x : FV Ideal) (n : Fin 16 → ℕ) (h : ∀ j, (x (ix j) : EReal) = ((n j : ℝ) : EReal)) (hn : ∀ j, n j ≤ 32) :
    (csumI x (ix 15) : EReal) = (((∑ j, n j : ℕ) : ℝ) : EReal) := by
  have hs := scan_nat n (fptosi 32 x) fun j => by
    rw [fptosi_ix, h j]
    exact fptosi_nat _ ((hn j).trans (by norm_num))
  have hle : ∑ j, n j ≤ 512 := (Finset.sum_le_card_nsmul _ _ 32 fun j _ => hn j).trans (by simp)
  unfold csumI
  rw [sitofp_ix, hs, toInt_small _ hle, Int.cast_natCast]

end Cert.Proof

end
-- ==== Proof.KernelValue.lean ====
/-
  The kernel's results, in terms of the softmax of every token's logits.
-/
module

public import proofs.«01_k».proof.Proof.Arrays
public import proofs.«01_k».proof.Proof.Token

public import Idealize.ShloMosaic.Lib.Pointwise.Reduce

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The logit of token `s` for expert `e`, over the naturals. -/
def lgN (x : S16384x2048.Idx → EReal) (w : S16x2048.Idx → EReal) (b : Fin 16 → EReal) (s e : ℕ) : EReal :=
  lgv x w b (Fin.ofNat 16384 s) (Fin.ofNat 16 e)

theorem nat_sum {ι : Type*} (t : Finset ι) (f : ι → ℕ) : (((∑ i ∈ t, f i : ℕ) : ℝ) : EReal) = ∑ i ∈ t, ((f i : ℝ) : EReal) := by
  rw [Nat.cast_sum]
  exact map_sum (⟨⟨fun x : ℝ => (x : EReal), rfl⟩, EReal.coe_add⟩ : ℝ →+ EReal) _ t

/-- Consecutive blocks of a range. -/
theorem sum_blocks (f : ℕ → EReal) (a b : ℕ) : ∑ i ∈ Finset.range a, ∑ j ∈ Finset.range b, f (b * i + j) = ∑ s ∈ Finset.range (a * b), f s := by
  induction a with
  | zero => simp
  | succ n ih => rw [Finset.sum_range_succ, ih, Nat.succ_mul, Finset.sum_range_add, Nat.mul_comm b n]

/-- The tokens by worker, lane and trip. -/
theorem sum_tokens (f : ℕ → EReal) : ∑ w ∈ Finset.range 32, ∑ j ∈ Finset.range 16, ∑ k ∈ Finset.range 32, f (512 * w + 16 * k + j) = ∑ s ∈ Finset.range 16384, f s := by
  rw [← sum_blocks f 32 512]
  refine Finset.sum_congr rfl fun w _ => ?_
  rw [Finset.sum_comm, ← sum_blocks (fun s => f (512 * w + s)) 32 16]
  exact Finset.sum_congr rfl fun k _ => Finset.sum_congr rfl fun j _ => by rw [Nat.add_assoc]

/-- The sum of a column of the lane sums. -/
def colS (v : FVec Ideal S32x16 .f32) (e : Fin 16) : EReal :=
  multiReduction .add [0] S16 (shapeCast S32x16 v shapeCasts_S32x16_S32x16) 0x00000000#32 reduces_S32x16_S16 (.inl rfl) rfl (ix e)

theorem col_sum (v : FVec Ideal S32x16 .f32) (e : Fin 16) : colS v e = ∑ w : Fin 32, v (ix2 w e) := by
  unfold colS
  rw [shapeCast_self]
  refine (Ideal.reduceAdd_r2_a0 reduces_S32x16_S16 v (ix e)).trans ?_
  rfl

theorem row_sum (v : FVec Ideal S16 .f32) :
    (extractAt ![0, 0] (shapeCast S1x1 (multiReduction .add [1] S1 (shapeCast S1x16 v shapeCasts_S16_S1x16) 0x00000000#32 reduces_S1x16_S1 (.inl rfl) rfl) shapeCasts_S1_S1x1) inpos_S1x1_p0_0 : EReal)
      = ∑ e : Fin 16, (v (ix e) : EReal) := by
  unfold extractAt
  refine (shapeCast_apply _ shapeCasts_S1_S1x1 _ (ix1 0) rfl).trans ?_
  refine (Ideal.reduceAdd_r2_a1 reduces_S1x16_S1 _ (ix1 0)).trans ?_
  refine Finset.sum_congr rfl fun e _ => ?_
  refine shapeCast_apply _ shapeCasts_S16_S1x16 _ (ix e) ?_
  rw [Shape.rowMajor_val_one, Shape.rowMajor_val_two]
  show e.val = 0 * 16 + e.val
  omega

theorem ofBits_inv : (Ideal.ofBits .f32 0x38800000#32 : EReal) = (((1 : ℝ) / 16384 : ℝ) : EReal) := by
  simp [Ideal.ofBits, Ideal.ieee, -EReal.coe_mul, -EReal.coe_neg]; norm_num
theorem ofBits_n : (Ideal.ofBits .f32 0x46800000#32 : EReal) = ((16384 : ℝ) : EReal) := by
  simp [Ideal.ofBits, Ideal.ieee, -EReal.coe_mul, -EReal.coe_neg]; norm_num
theorem ofBits_16 : (Ideal.ofBits .f32 0x41800000#32 : EReal) = ((16 : ℝ) : EReal) := by
  simp [Ideal.ofBits, Ideal.ieee, -EReal.coe_mul, -EReal.coe_neg]; norm_num

/-- The auxiliary loss of the sums of the probabilities and of the counts. -/
def auxv (imp load : Fin 16 → EReal) : EReal :=
  ∑ e : Fin 16, ((16 : ℝ) : EReal) * (Ideal.div (imp e) ((16384 : ℝ) : EReal) * Ideal.div (load e) ((16384 : ℝ) : EReal))

theorem pay1_apply (ip ld : FVec Ideal S32x16 .f32) :
    (k2_pay1 (F := Ideal) ip ld : EReal) = auxv (fun e => ∑ w : Fin 32, ip (ix2 w e)) (fun e => ∑ w : Fin 32, ld (ix2 w e)) := by
  refine (row_sum _).trans ?_
  unfold auxv
  refine Finset.sum_congr rfl fun e _ => ?_
  have h16 : (16384 : ℝ) ≠ 0 := by norm_num
  show (Ideal.ofBits .f32 0x41800000#32 * (colS ip e * Ideal.ofBits .f32 0x38800000#32)) * (colS ld e * Ideal.ofBits .f32 0x38800000#32) = _
  rw [Ideal.div_coe h16, Ideal.div_coe h16, col_sum, col_sum, ofBits_inv, ofBits_16]
  simp only [mul_assoc]

section

variable (m : (ℓ : Loc nD τ sig) → Buf (Elt Ideal) ℓ) (c : Dev nD)

/-- The arguments as arrays of reals, the bias by expert. -/
def argX : S16384x2048.Idx → EReal := aX m c
def argW : S16x2048.Idx → EReal := aW m c
def argB : Fin 16 → EReal := fun e => (m ((SparseCore.T c : Thread nD τ).loc main_arg2) : S16.Idx → EReal) (ix1 e)

/-- The rows of sums and of counts. -/
def argI : S32x16.Idx → EReal := aI m c
def argL : S32x16.Idx → EReal := aL m c

/-- The logits of a token. -/
def lgm (s : ℕ) : ℕ → EReal := lgN (argX m c) (argW m c) (argB m c) s

theorem flat_apply (a tb k j : ℕ) (ha : a < 2) (htb : tb < 128) (hk : k < 8) (hj : j < 128) :
    (fl (flat m c) (131072 * a + 1024 * tb + 128 * k + j) : EReal) = lgm m c (128 * tb + j) (8 * a + k) := by
  let n : ℕ := 131072 * a + 1024 * tb + 128 * k + j
  have hn : n < 262144 := by show 131072 * a + 1024 * tb + 128 * k + j < _; omega
  let i : S2x128x8x128.Idx := fun | 0 => ⟨a, ha⟩ | 1 => ⟨tb, htb⟩ | 2 => ⟨k, hk⟩ | 3 => ⟨j, hj⟩
  refine (fl_apply (flat m c) (ix1 (⟨n, hn⟩ : Fin 262144)) _ rfl).trans ?_
  unfold flat
  refine (shapeCast_apply _ shapeCasts_S2x128x8x128_S262144 _ i ?_).trans ?_
  · rw [Shape.rowMajor_val_one, Shape.rowMajor_val_four]
    show ((a * 128 + tb) * 8 + k) * 128 + j = 131072 * a + 1024 * tb + 128 * k + j
    omega
  unfold logits
  rw [arr0]
  unfold lgArr lgm lgN
  have e1 : (Fin.ofNat 16384 (128 * tb + j)) = ⟨128 * (i 1).val + (i 3).val, by show 128 * tb + j < 16384; omega⟩ :=
    Fin.ext (by show (128 * tb + j) % 16384 = 128 * tb + j; omega)
  have e2 : (Fin.ofNat 16 (8 * a + k)) = ⟨8 * (i 0).val + (i 2).val, by show 8 * a + k < 16; omega⟩ :=
    Fin.ext (by show (8 * a + k) % 16 = 8 * a + k; omega)
  rw [e1, e2]
  have hb : (fun e : Fin 16 => (aB m c : S16x1.Idx → EReal) (ix2 e 0)) = argB m c := by
    funext e
    unfold aB
    refine shapeCast_apply _ shapeCasts_S16_S16x1 _ (ix1 e) ?_
    rw [Shape.rowMajor_val_one, Shape.rowMajor_val_two]
    show e.val = e.val * 1 + 0
    omega
  rw [hb]
  rfl

/-- What the loop reads is the logits of its tokens. -/
theorem vx_lg (w k : ℕ) (hw : w < 32) (hk : k < 32) (q : S16.Idx) :
    at16 (vx (F := Ideal) (fl (flat m c)) w k) q = lgm m c (512 * w + 16 * k + (q 0).val) := by
  funext e
  have hq : (q 0).val < 16 := (q 0).isLt
  unfold at16 vx
  have h := flat_apply m c (e / 8 % 2) (4 * w + k / 8) (e % 8) (16 * (k % 8) + (q 0).val) (by omega) (by omega) (by omega) (by omega)
  have e1 : 131072 * (e / 8 % 2) + 4096 * w + 1024 * (k / 8) + 128 * (e % 8) + 16 * (k % 8) + (q 0).val
      = 131072 * (e / 8 % 2) + 1024 * (4 * w + k / 8) + 128 * (e % 8) + (16 * (k % 8) + (q 0).val) := by omega
  rw [e1]
  refine h.trans ?_
  rw [show 128 * (4 * w + k / 8) + (16 * (k % 8) + (q 0).val) = 512 * w + 16 * k + (q 0).val by omega]
  unfold lgm lgN
  congr 1
  exact Fin.ext (by show (8 * (e / 8 % 2) + e % 8) % 16 = e % 16; omega)

variable (hF : ∀ s, Fin16 (lgm m c s))

include hF

theorem fin_vx (w k : ℕ) (hw : w < 32) (hk : k < 32) (q : S16.Idx) : Fin16 (at16 (vx (F := Ideal) (fl (flat m c)) w k) q) := by
  rw [vx_lg m c w k hw hk q]; exact hF _

/-- The sums of the probabilities over a worker's tokens. -/
theorem aI_col (e : Fin 16) : ∑ w : Fin 32, argI m c (ix2 w e) = ∑ s ∈ Finset.range 16384, pb (lgm m c s) e.val := by
  rw [← sum_tokens fun s => pb (lgm m c s) e.val, ← Fin.sum_univ_eq_sum_range (fun w => ∑ j ∈ Finset.range 16, ∑ k ∈ Finset.range 32, pb (lgm m c (512 * w + 16 * k + j)) e.val) 32]
  refine Finset.sum_congr rfl fun w _ => ?_
  show (csum (accI (vx (F := Ideal) (fl (flat m c)) w.val) 32 e.val) 15 (ix 15) : EReal) = _
  rw [csum_apply _ 15 (by norm_num)]
  refine Finset.sum_congr rfl fun j hj => ?_
  have hj : j < 16 := Finset.mem_range.mp hj
  rw [accI_apply _ 32 e.val e.isLt _ fun i hi => fin_vx m c hF w.val i w.isLt hi _]
  refine Finset.sum_congr rfl fun k hk => ?_
  rw [vx_lg m c w.val k w.isLt (Finset.mem_range.mp hk)]
  have : ((ix (Fin.ofNat 16 j)) 0).val = j := Nat.mod_eq_of_lt hj
  rw [this]

/-- What the first expert of a token is, for the kernel. -/
theorem first_eq (A B : ℕ → ℕ) (hA : ∀ s, IsTop (pb (lgm m c s)) 16 (A s) (B s)) (w k : ℕ) (hw : w < 32) (hk : k < 32) (q : S16.Idx) :
    i1v (vx (F := Ideal) (fl (flat m c)) w k) q = BitVec.ofNat 32 (A (512 * w + 16 * k + (q 0).val))
    ∧ i2v (vx (F := Ideal) (fl (flat m c)) w k) q = BitVec.ofNat 32 (B (512 * w + 16 * k + (q 0).val))
    ∧ (w1v (vx (F := Ideal) (fl (flat m c)) w k) q : EReal) = Ideal.div (pb (lgm m c (512 * w + 16 * k + (q 0).val)) (A (512 * w + 16 * k + (q 0).val)))
        (pb (lgm m c (512 * w + 16 * k + (q 0).val)) (A (512 * w + 16 * k + (q 0).val)) + pb (lgm m c (512 * w + 16 * k + (q 0).val)) (B (512 * w + 16 * k + (q 0).val)))
    ∧ (w2v (vx (F := Ideal) (fl (flat m c)) w k) q : EReal) = Ideal.div (pb (lgm m c (512 * w + 16 * k + (q 0).val)) (B (512 * w + 16 * k + (q 0).val)))
        (pb (lgm m c (512 * w + 16 * k + (q 0).val)) (A (512 * w + 16 * k + (q 0).val)) + pb (lgm m c (512 * w + 16 * k + (q 0).val)) (B (512 * w + 16 * k + (q 0).val))) := by
  obtain ⟨a, b, ht, h1, h2, h3, h4⟩ := top_lane (vx (F := Ideal) (fl (flat m c)) w k) q (fin_vx m c hF w k hw hk q)
  rw [vx_lg m c w k hw hk q] at ht h3 h4
  obtain ⟨rfl, rfl⟩ := ht.unique (hA _)
  exact ⟨h1, h2, h3, h4⟩

/-- The counts of the tokens whose first expert is `e`. -/
theorem aL_col (A B : ℕ → ℕ) (hA : ∀ s, IsTop (pb (lgm m c s)) 16 (A s) (B s)) (e : Fin 16) :
    ∑ w : Fin 32, argL m c (ix2 w e) = ∑ s ∈ Finset.range 16384, if A s = e.val then (1 : EReal) else 0 := by
  rw [← sum_tokens fun s => if A s = e.val then (1 : EReal) else 0,
    ← Fin.sum_univ_eq_sum_range (fun w => ∑ j ∈ Finset.range 16, ∑ k ∈ Finset.range 32, if A (512 * w + 16 * k + j) = e.val then (1 : EReal) else 0) 32]
  refine Finset.sum_congr rfl fun w _ => ?_
  show (csumI (accL (vx (F := Ideal) (fl (flat m c)) w.val) 32 e.val) (ix 15) : EReal) = _
  rw [csumI_apply _ (fun j => cnt (vx (F := Ideal) (fl (flat m c)) w.val) 32 e.val (ix j)) (fun j => accL_apply _ _ _ _) fun j => cnt_le _ _ _ _]
  have hc : ∀ j : Fin 16, ((cnt (vx (F := Ideal) (fl (flat m c)) w.val) 32 e.val (ix j) : ℝ) : EReal)
      = ∑ k ∈ Finset.range 32, if A (512 * w.val + 16 * k + j.val) = e.val then (1 : EReal) else 0 := by
    intro j
    unfold cnt
    rw [nat_sum]
    refine Finset.sum_congr rfl fun k hk => ?_
    rw [(first_eq m c hF A B hA w.val k w.isLt (Finset.mem_range.mp hk) (ix j)).1]
    have hA' := (hA (512 * w.val + 16 * k + ((ix j) 0).val)).lt_a
    have : (BitVec.ofNat 32 (A (512 * w.val + 16 * k + ((ix j) 0).val)) = BitVec.ofNat 32 e.val) ↔ A (512 * w.val + 16 * k + j.val) = e.val := by
      constructor
      · intro h
        have h' := congrArg BitVec.toNat h
        rw [BitVec.toNat_ofNat, BitVec.toNat_ofNat, Nat.mod_eq_of_lt (hA'.trans (by norm_num)), Nat.mod_eq_of_lt (e.isLt.trans (by norm_num))] at h'
        exact h'
      · intro h
        exact congrArg (BitVec.ofNat 32) h
    by_cases h : A (512 * w.val + 16 * k + j.val) = e.val
    · rw [if_pos (this.mpr h), if_pos h]; simp
    · rw [if_neg (fun h' => h (this.mp h')), if_neg h]; simp
  rw [← Fin.sum_univ_eq_sum_range (fun j => ∑ k ∈ Finset.range 32, if A (512 * w.val + 16 * k + j) = e.val then (1 : EReal) else 0) 16, nat_sum]
  exact Finset.sum_congr rfl fun j _ => hc j

theorem res5_apply (A B : ℕ → ℕ) (hA : ∀ s, IsTop (pb (lgm m c s)) 16 (A s) (B s)) (i : S_.Idx) :
    (res5 m c i : EReal) = auxv (fun e => ∑ s ∈ Finset.range 16384, pb (lgm m c s) e.val) (fun e => ∑ s ∈ Finset.range 16384, if A s = e.val then (1 : EReal) else 0) := by
  have h : (res5 m c i : EReal) = k2_pay1 (F := Ideal) (argI m c) (argL m c) := by
    unfold res5 loss
    rw [arr1]
    rfl
  rw [h, pay1_apply]
  exact congrArg₂ auxv (funext fun e => aI_col m c hF e) (funext fun e => aL_col m c hF A B hA e)

omit hF in
theorem tok_eq (s : Fin 16384) : 512 * (s.val / 512) + 16 * (s.val % 512 / 16) + ((ix (Fin.ofNat 16 s.val)) 0).val = s.val := by
  have : ((ix (Fin.ofNat 16 s.val)) 0).val = s.val % 16 := rfl
  rw [this]
  omega

omit hF in
/-- Two columns side by side, at each. -/
theorem two_cols {α : Type} (x y : S16384.Idx → α) (s : Fin 16384) :
    concatenate S16384x2 1 [⟨S16384x1, broadcastInDim S16384x1 ![0] bcast_S16384_S16384x1_0 x⟩, ⟨S16384x1, broadcastInDim S16384x1 ![0] bcast_S16384_S16384x1_0 y⟩]
        concatenates_S16384x1_S16384x1_S16384x2_d1 (ix2 s 0) = x (ix1 s)
    ∧ concatenate S16384x2 1 [⟨S16384x1, broadcastInDim S16384x1 ![0] bcast_S16384_S16384x1_0 x⟩, ⟨S16384x1, broadcastInDim S16384x1 ![0] bcast_S16384_S16384x1_0 y⟩]
        concatenates_S16384x1_S16384x1_S16384x2_d1 (ix2 s 1) = y (ix1 s) := by
  have hc : ∀ z : S16384.Idx → α, broadcastInDim S16384x1 ![0] bcast_S16384_S16384x1_0 z (ix2 s 0) = z (ix1 s) := fun z =>
    broadcastInDim_apply _ _ _ _ _ fun a => by
      match a with
      | 0 => rfl
  constructor
  · refine (concatenate_pair_apply_left (s₁ := S16384x1) (s₂ := S16384x1) (t := S16384x2) 1 _ _ _ (ix2 s 0) rfl (ix2 s 0) fun b => ?_).trans (hc x)
    match b with
    | 0 => rfl
    | 1 => rfl
  · refine (concatenate_pair_apply_right (s₁ := S16384x1) (s₂ := S16384x1) (t := S16384x2) 1 _ _ _ (ix2 s 1) rfl rfl (ix2 s 0) (fun b hb => ?_) rfl).trans (hc y)
    match b with
    | 0 => rfl
    | 1 => exact absurd rfl hb

theorem res8_apply (A B : ℕ → ℕ) (hA : ∀ s, IsTop (pb (lgm m c s)) 16 (A s) (B s)) (s : Fin 16384) :
    res8 m c (ix2 s 0) = BitVec.ofNat 32 (A s.val) ∧ res8 m c (ix2 s 1) = BitVec.ofNat 32 (B s.val) := by
  have h := first_eq m c hF A B hA (s.val / 512) (s.val % 512 / 16) (by omega) (by omega) (ix (Fin.ofNat 16 s.val))
  rw [tok_eq s] at h
  have hc := two_cols (outOf (gI1 (fl (flat m c)))) (outOf (gI2 (fl (flat m c)))) s
  exact ⟨hc.1.trans h.1, hc.2.trans h.2.1⟩

theorem res11_apply (A B : ℕ → ℕ) (hA : ∀ s, IsTop (pb (lgm m c s)) 16 (A s) (B s)) (s : Fin 16384) :
    (res11 m c (ix2 s 0) : EReal) = Ideal.div (pb (lgm m c s.val) (A s.val)) (pb (lgm m c s.val) (A s.val) + pb (lgm m c s.val) (B s.val))
    ∧ (res11 m c (ix2 s 1) : EReal) = Ideal.div (pb (lgm m c s.val) (B s.val)) (pb (lgm m c s.val) (A s.val) + pb (lgm m c s.val) (B s.val)) := by
  have h := first_eq m c hF A B hA (s.val / 512) (s.val % 512 / 16) (by omega) (by omega) (ix (Fin.ofNat 16 s.val))
  rw [tok_eq s] at h
  have hc := two_cols (outOf (gW1 (fl (flat m c)))) (outOf (gW2 (fl (flat m c)))) s
  exact ⟨hc.1.trans h.2.2.1, hc.2.trans h.2.2.2⟩

end

end Cert.Proof

end
-- ==== Proof.RefValue.lean ====
/-
  The reference's results, in terms of the softmax of every token's logits.
-/
module

public import proofs.«01_k».proof.Proof.KernelValue

public import proofs.«01_k».proof.Proof.Gen.ReferenceIdeal.Run
public import Idealize.ShloMosaic.Lib.StackMember
public import Idealize.ShloMosaic.Lib.Routing.OpsPair

@[expose] public section

noncomputable section

namespace Cert.Proof

open Cert.ReferenceIdeal Cert.ReferenceIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section

variable (x : FVec Ideal S16384x2048 .f32) (w : FVec Ideal S16x2048 .f32) (b : FVec Ideal S16 .f32)

/-- The reference's logits. -/
def rL : FVec Ideal S16384x16 .f32 :=
  addf (Host.dotGeneral dot_S16384x2048_S2048x16_S16384x16_1_0_0_1_n_n none x (transpose S2048x16 [1, 0] w transposes_S16x2048_S2048x16_1_0))
    (broadcastInDim S16384x16 ![0, 1] bcast_S1x16_S16384x16_0_1 (broadcastInDim S1x16 ![1] bcast_S16_S1x16_1 b))

/-- A value for each token, across the experts. -/
def acr (v : FVec Ideal S16384 .f32) : FVec Ideal S16384x16 .f32 :=
  broadcastInDim S16384x16 ![0, 1] bcast_S16384x1_S16384x16_0_1 (broadcastInDim S16384x1 ![0] bcast_S16384_S16384x1_0 v)

/-- The greatest logit of each token. -/
def rM (L : FVec Ideal S16384x16 .f32) : FVec Ideal S16384 .f32 :=
  maximumf (broadcastInDim S16384 ![] bcast_S_S16384 (constant S_ .f32 0xFF800000#32))
    (Host.reduce FloatOps.maximumf L (constant S_ .f32 0xFF800000#32) reducesTo_S16384x16_S16384_d1 h_S_)

/-- The exponentials. -/
def rE (L : FVec Ideal S16384x16 .f32) : FVec Ideal S16384x16 .f32 := Host.exp (subf L (acr (rM L)))

/-- The probabilities. -/
def rP (L : FVec Ideal S16384x16 .f32) : FVec Ideal S16384x16 .f32 :=
  Host.divf (rE L) (acr (Host.reduceAdd (rE L) (constant S_ .f32 0x00000000#32) reducesTo_S16384x16_S16384_d1 h_S_))

/-- The two greatest probabilities of each token, and their experts. -/
def rV (P : FVec Ideal S16384x16 .f32) : FVec Ideal S16384x2 .f32 := (Host.topK S16384x2 1 (FloatOps.cmpfTotal .gt) P sliceFits_S16384x16_S16384x2).1
def rI (P : FVec Ideal S16384x16 .f32) : IVec S16384x2 32 := (Host.topK S16384x2 1 (FloatOps.cmpfTotal .gt) P sliceFits_S16384x16_S16384x2).2

/-- The weights. -/
def rW (V : FVec Ideal S16384x2 .f32) : FVec Ideal S16384x2 .f32 :=
  Host.divf V (broadcastInDim S16384x2 ![0, 1] bcast_S16384x1_S16384x2_0_1 (broadcastInDim S16384x1 ![0] bcast_S16384_S16384x1_0
    (Host.reduceAdd V (constant S_ .f32 0x00000000#32) reducesTo_S16384x2_S16384_d1 h_S_)))

/-- The first expert of each token. -/
def rF (I : IVec S16384x2 32) : IVec S16384 32 := shapeCast S16384 (extractStridedSlice S16384x1 ![0, 0] I slices_S16384x2_S16384x1_0_0) shapeCasts_S16384x1_S16384

/-- The places the counts are added at. -/
def rX (f : IVec S16384 32) : IVec S16384x1 32 :=
  broadcastInDim S16384x1 ![0] bcast_S16384_S16384x1_0 (select (cmpi .slt f (broadcastInDim S16384 ![] bcast_S_S16384 (constantI S_ 32 0#32)))
    (addi f (broadcastInDim S16384 ![] bcast_S_S16384 (constantI S_ 32 16#32))) f)

/-- The counts. -/
def rC (X : IVec S16384x1 32) : FVec Ideal S16 .f32 :=
  Host.scatterAdd scatter_S16_S16384x1_S16384_n_0_0_1 (broadcastInDim S16 ![] bcast_S_S16 (constant S_ .f32 0x00000000#32)) X
    (broadcastInDim S16384 ![] bcast_S_S16384 (constant S_ .f32 0x3F800000#32))

/-- The auxiliary loss. -/
def rA (P : FVec Ideal S16384x16 .f32) (C : FVec Ideal S16 .f32) : FVec Ideal S_ .f32 :=
  Host.reduceAdd (mulf (broadcastInDim S16 ![] bcast_S_S16 (constant S_ .f32 0x41800000#32))
    (mulf (Host.divf (Host.reduceAdd P (constant S_ .f32 0x00000000#32) reducesTo_S16384x16_S16_d0 h_S_) (broadcastInDim S16 ![] bcast_S_S16 (constant S_ .f32 0x46800000#32)))
      (Host.divf C (broadcastInDim S16 ![] bcast_S_S16 (constant S_ .f32 0x46800000#32))))) (constant S_ .f32 0x00000000#32) reducesTo_S16_S_d0 h_S_

theorem rL_apply (s : Fin 16384) (e : Fin 16) : (rL x w b (ix2 s e) : EReal) = lgv x w (fun e => b (ix1 e)) s e := by
  have h1 : (Host.dotGeneral dot_S16384x2048_S2048x16_S16384x16_1_0_0_1_n_n none x (transpose S2048x16 [1, 0] w transposes_S16x2048_S2048x16_1_0) (ix2 s e) : EReal)
      = ∑ k : Fin 2048, x (ix2 s k) * w (ix2 e k) := by
    refine (StackMember.dotGeneral_plain_apply (m := 16384) (k := 2048) (n := 16) none x (transpose S2048x16 [1, 0] w transposes_S16x2048_S2048x16_1_0) s e).trans ?_
    refine Finset.sum_congr rfl fun k _ => congrArg (_ * ·) ?_
    refine transpose_apply _ _ _ _ _ fun a => ?_
    match a with
    | 0 => rfl
    | 1 => rfl
  have h2 : broadcastInDim S16384x16 ![0, 1] bcast_S1x16_S16384x16_0_1 (broadcastInDim S1x16 ![1] bcast_S16_S1x16_1 b) (ix2 s e) = b (ix1 e) := by
    refine (broadcastInDim_apply _ _ _ _ (ix2 (0 : Fin 1) e) fun a => ?_).trans (broadcastInDim_apply _ _ _ _ (ix1 e) fun a => ?_)
    · match a with
      | 0 => rfl
      | 1 => rfl
    · match a with
      | 0 => rfl
  exact congrArg₂ (· + ·) h1 h2

theorem acr_apply (v : FVec Ideal S16384 .f32) (s : Fin 16384) (e : Fin 16) : acr v (ix2 s e) = v (ix1 s) := by
  unfold acr
  refine (broadcastInDim_apply _ _ _ _ (ix2 s (0 : Fin 1)) fun a => ?_).trans (broadcastInDim_apply _ _ _ _ (ix1 s) fun a => ?_)
  · match a with
    | 0 => rfl
    | 1 => rfl
  · match a with
    | 0 => rfl

theorem ofBits_bot : (Ideal.ofBits .f32 0xFF800000#32 : EReal) = ⊥ := by simp [Ideal.ofBits, Ideal.ieee]

variable (L : FVec Ideal S16384x16 .f32)

/-- A token's row, over the naturals. -/
def rowN (s : Fin 16384) (e : ℕ) : EReal := L (ix2 s (Fin.ofNat 16 e))

theorem rowN_apply (s : Fin 16384) (e : Fin 16) : (L (ix2 s e) : EReal) = rowN L s e.val := by
  unfold rowN
  rw [Fin.ofNat_val_eq_self]

instance : Std.Commutative (FloatOps.maximumf : Ideal .f32 → Ideal .f32 → Ideal .f32) := ⟨fun a b => max_comm (α := EReal) a b⟩
instance : Std.Associative (FloatOps.maximumf : Ideal .f32 → Ideal .f32 → Ideal .f32) := ⟨fun a b c => max_assoc (α := EReal) a b c⟩

theorem rM_apply (s : Fin 16384) : (rM L (ix1 s) : EReal) = mx (rowN L s) := by
  have h : (Host.reduce (α := Ideal .f32) FloatOps.maximumf L (constant S_ .f32 0xFF800000#32) reducesTo_S16384x16_S16384_d1 h_S_ (ix1 s) : Ideal .f32) = mx (rowN L s) := by
    refine (Host.reduce_eq_fold (FloatOps.maximumf : Ideal .f32 → Ideal .f32 → Ideal .f32) L _ reducesTo_S16384x16_S16384_d1 h_S_ (ix1 s)).trans ?_
    refine (Shape.ReducesTo.fold_fiber_r2_a1 reducesTo_S16384x16_S16384_d1 (ix1 s) _ _ L).trans ?_
    have e0 : (constant (F := Ideal) S_ .f32 0xFF800000#32 (Shape.Idx.first h_S_) : EReal) = ⊥ := ofBits_bot
    refine (congrArg (fun z => Finset.fold (max : EReal → EReal → EReal) z (fun k : Fin 16 => (L (ix2 s k) : EReal)) Finset.univ) e0).trans ?_
    show Finset.univ.sup (fun k : Fin 16 => (L (ix2 s k) : EReal)) = _
    unfold mx
    apply le_antisymm
    · refine Finset.sup_le fun e _ => ?_
      rw [rowN_apply L s e]
      exact Finset.le_sup (f := rowN L s) (Finset.mem_range.mpr e.isLt)
    · refine Finset.sup_le fun e he => ?_
      exact Finset.le_sup (f := fun k : Fin 16 => (L (ix2 s k) : EReal)) (Finset.mem_univ _)
  have e0 : (broadcastInDim S16384 ![] bcast_S_S16384 (constant (F := Ideal) S_ .f32 0xFF800000#32) (ix1 s) : EReal) = ⊥ := ofBits_bot
  refine (congrArg₂ (max : EReal → EReal → EReal) e0 h).trans ?_
  exact max_eq_right bot_le

theorem rE_apply (s : Fin 16384) (e : Fin 16) : (rE L (ix2 s e) : EReal) = ex (rowN L s) e.val := by
  show Ideal.exp ((L (ix2 s e) : EReal) - (acr (rM L) (ix2 s e) : EReal)) = _
  rw [acr_apply, rM_apply, rowN_apply L s e]
  rfl

theorem zero_init : (constant (F := Ideal) S_ .f32 0x00000000#32 (Shape.Idx.first h_S_) : EReal) = 0 := Ideal.ofBits_zero_f32

theorem rP_apply (s : Fin 16384) (e : Fin 16) : (rP L (ix2 s e) : EReal) = pb (rowN L s) e.val := by
  have h : (Host.reduceAdd (rE L) (constant S_ .f32 0x00000000#32) reducesTo_S16384x16_S16384_d1 h_S_ (ix1 s) : EReal) = den (rowN L s) := by
    refine (Ideal.hostReduceAdd_r2_a1 reducesTo_S16384x16_S16384_d1 (rE L) _ (ix1 s)).trans ?_
    refine (congrArg (· + _) zero_init).trans ((zero_add _).trans ?_)
    unfold den
    rw [← Fin.sum_univ_eq_sum_range]
    exact Finset.sum_congr rfl fun k _ => rE_apply L s k
  have hd : ∀ (E A : FVec Ideal S16384x16 .f32), (Host.divf E A (ix2 s e) : EReal) = Ideal.div (E (ix2 s e)) (A (ix2 s e)) := fun _ _ => rfl
  unfold rP pb
  rw [hd, acr_apply, rE_apply]
  exact congrArg (Ideal.div (ex (rowN L s) e.val)) h

/-- A token's probabilities, over the naturals: the softmax below sixteen. -/
theorem rowP (s : Fin 16384) (e : ℕ) (he : e < 16) : rowN (rP L) s e = pb (rowN L s) e := by
  unfold rowN
  rw [rP_apply]
  exact congrArg (pb _) (Nat.mod_eq_of_lt he)

variable (P : FVec Ideal S16384x16 .f32)

/-- The order of a token's experts. -/
def ordP (s : Fin 16384) : Fin 16 → Fin 16 := sortedFrom fun k k' => (FloatOps.cmpfTotal .gt (P (ix2 s k)) (P (ix2 s k'))) == 1#1

theorem ordP_isTop (s : Fin 16384) : IsTop (rowN P s) 16 (ordP P s 0).val (ordP P s 1).val := by
  refine sortedFrom_isTop (rowN P s) _ fun a b => ?_
  rw [← rowN_apply, ← rowN_apply]
  show (BitVec.ofBool (decide ((P (ix2 s b) : EReal) < (P (ix2 s a) : EReal))) == 1#1) = true ↔ _
  by_cases h : (P (ix2 s b) : EReal) < (P (ix2 s a) : EReal) <;> simp [h]

theorem along_eq (s : Fin 16384) (e k : Fin 16) : Shape.Idx.along (s := S16384x16) (ix2 s e) 1 k = ix2 s k := by
  funext a
  match a with
  | 0 => rfl
  | 1 => rfl

/-- The places of a token's experts. -/
def places : IVec S16384x16 32 := fun i => if hd : 1 < S16384x16.rank then iotaInDim S16384x16 32 ⟨1, hd⟩ i else 0#32

theorem places_apply (s : Fin 16384) (k : Fin 16) : places (ix2 s k) = BitVec.ofNat 32 k.val := by
  unfold places
  rw [dif_pos (by decide)]
  rfl

theorem topK_apply (s : Fin 16384) (j : Fin 2) (e : Fin 16) (he : e.val = j.val) :
    rV P (ix2 s j) = P (ix2 s (ordP P s e)) ∧ rI P (ix2 s j) = BitVec.ofNat 32 (ordP P s e).val := by
  have hπ : (fun k k' : Fin 16 => FloatOps.cmpfTotal .gt (P (Shape.Idx.along (s := S16384x16) (ix2 s e) 1 k)) (P (Shape.Idx.along (s := S16384x16) (ix2 s e) 1 k')) == 1#1)
      = fun k k' : Fin 16 => FloatOps.cmpfTotal .gt (P (ix2 s k)) (P (ix2 s k')) == 1#1 := by
    funext k k'
    rw [along_eq, along_eq]
  constructor
  · show extractStridedSlice S16384x2 (fun _ => 0) (Host.sort2 S16384x16 1 (fun l r => FloatOps.cmpfTotal .gt l.1 r.1) P places).1 sliceFits_S16384x16_S16384x2 (ix2 s j) = _
    refine (extractStridedSlice_apply _ _ _ (ix2 s j) (ix2 s e) fun a => ?_).trans ?_
    · match a with
      | 0 => show s.val = 0 + s.val; omega
      | 1 => show e.val = 0 + j.val; omega
    · show P (Shape.Idx.along (s := S16384x16) (ix2 s e) 1 (sortedFrom (fun k k' : Fin 16 => FloatOps.cmpfTotal .gt (P (Shape.Idx.along (s := S16384x16) (ix2 s e) 1 k))
        (P (Shape.Idx.along (s := S16384x16) (ix2 s e) 1 k')) == 1#1) e)) = _
      rw [hπ]
      exact congrArg P (along_eq s e (ordP P s e))
  · show extractStridedSlice S16384x2 (fun _ => 0) (Host.sort2 S16384x16 1 (fun l r => FloatOps.cmpfTotal .gt l.1 r.1) P places).2 sliceFits_S16384x16_S16384x2 (ix2 s j) = _
    refine (extractStridedSlice_apply _ _ _ (ix2 s j) (ix2 s e) fun a => ?_).trans ?_
    · match a with
      | 0 => show s.val = 0 + s.val; omega
      | 1 => show e.val = 0 + j.val; omega
    · show places (Shape.Idx.along (s := S16384x16) (ix2 s e) 1 (sortedFrom (fun k k' : Fin 16 => FloatOps.cmpfTotal .gt (P (Shape.Idx.along (s := S16384x16) (ix2 s e) 1 k))
        (P (Shape.Idx.along (s := S16384x16) (ix2 s e) 1 k')) == 1#1) e)) = _
      rw [hπ]
      exact (congrArg places (along_eq s e (ordP P s e))).trans (places_apply s _)

theorem rW_apply (V : FVec Ideal S16384x2 .f32) (s : Fin 16384) (j : Fin 2) :
    (rW V (ix2 s j) : EReal) = Ideal.div (V (ix2 s j)) ((V (ix2 s 0) : EReal) + (V (ix2 s 1) : EReal)) := by
  have h : (Host.reduceAdd V (constant S_ .f32 0x00000000#32) reducesTo_S16384x2_S16384_d1 h_S_ (ix1 s) : EReal) = (V (ix2 s 0) : EReal) + (V (ix2 s 1) : EReal) := by
    refine (Ideal.hostReduceAdd_r2_a1 reducesTo_S16384x2_S16384_d1 V _ (ix1 s)).trans ?_
    refine (congrArg (· + _) zero_init).trans ((zero_add _).trans ?_)
    exact Fin.sum_univ_two _
  have hd : ∀ (E A : FVec Ideal S16384x2 .f32), (Host.divf E A (ix2 s j) : EReal) = Ideal.div (E (ix2 s j)) (A (ix2 s j)) := fun _ _ => rfl
  unfold rW
  rw [hd]
  refine congrArg (Ideal.div (V (ix2 s j))) (Eq.trans ?_ h)
  refine (broadcastInDim_apply _ _ _ _ (ix2 s (0 : Fin 1)) fun a => ?_).trans (broadcastInDim_apply _ _ _ _ (ix1 s) fun a => ?_)
  · match a with
    | 0 => rfl
    | 1 => rfl
  · match a with
    | 0 => rfl

theorem rF_apply (I : IVec S16384x2 32) (s : Fin 16384) : rF I (ix1 s) = I (ix2 s 0) := by
  unfold rF
  refine (shapeCast_apply _ _ _ (ix2 s (0 : Fin 1)) ?_).trans (extractStridedSlice_apply _ _ _ _ (ix2 s (0 : Fin 2)) fun a => ?_)
  · rw [Shape.rowMajor_val_one, Shape.rowMajor_val_two]
    show s.val * 1 + 0 = s.val
    omega
  · match a with
    | 0 => show s.val = 0 + s.val; omega
    | 1 => rfl

theorem rX_apply (f : IVec S16384 32) (s : Fin 16384) (a : ℕ) (ha : a < 16) (hf : f (ix1 s) = BitVec.ofNat 32 a) :
    rX f (ix2 s 0) = BitVec.ofNat 32 a := by
  unfold rX
  refine (broadcastInDim_apply _ _ _ _ (ix1 s) fun a => ?_).trans ?_
  · match a with
    | 0 => rfl
  show (if IntOp.cmpi .slt (f (ix1 s)) 0#32 = 1#1 then _ else f (ix1 s)) = _
  rw [hf, if_neg ?_]
  have : ∀ a : Fin 16, ¬ IntOp.cmpi .slt (BitVec.ofNat 32 a.val) 0#32 = 1#1 := by decide
  exact this ⟨a, ha⟩

theorem rC_apply (X : IVec S16384x1 32) (A : ℕ → ℕ) (hA : ∀ s, A s < 16) (hX : ∀ s : Fin 16384, X (ix2 s 0) = BitVec.ofNat 32 (A s.val)) (e : Fin 16) :
    (rC X (ix1 e) : EReal) = ∑ s ∈ Finset.range 16384, if A s = e.val then (1 : EReal) else 0 := by
  have h0 : (broadcastInDim S16 ![] bcast_S_S16 (constant (F := Ideal) S_ .f32 0x00000000#32) (ix1 e) : EReal) = 0 := Ideal.ofBits_zero_f32
  have h1 : ∀ s : S16384.Idx, (broadcastInDim S16384 ![] bcast_S_S16384 (constant (F := Ideal) S_ .f32 0x3F800000#32) s : EReal) = 1 := fun _ => Ideal.ofBits_one_f32
  have hr : ∀ s : Fin 16384, scatter_S16_S16384x1_S16384_n_0_0_1.resultIdx? (ix1 s) X = some (ix1 e) ↔ A s.val = e.val := by
    intro s
    have hs : scatter_S16_S16384x1_S16384_n_0_0_1.start (ix1 s) X 0 = (X (ix2 s 0)).toInt := by
      refine (dif_pos (by decide)).trans (congrArg (fun i => (X i).toInt) (funext fun a => ?_))
      match a with
      | 0 => rfl
      | 1 => rfl
    have hw : scatter_S16_S16384x1_S16384_n_0_0_1.window (ix1 s) 0 = 0 := dif_neg (by decide)
    rw [Routing.resultIdx?_eq_some]
    have hx : scatter_S16_S16384x1_S16384_n_0_0_1.start (ix1 s) X 0 + (scatter_S16_S16384x1_S16384_n_0_0_1.window (ix1 s) 0 : Int) = (A s.val : Int) := by
      rw [hs, hw, hX, toInt_small _ ((hA _).le.trans (by norm_num))]
      simp
    constructor
    · intro h
      have := hx.symm.trans (h 0)
      exact Int.ofNat.inj this
    · intro h a
      match a with
      | 0 => exact hx.trans (congrArg Int.ofNat h)
  show (Ideal.hostScatterAdd scatter_S16_S16384x1_S16384_n_0_0_1 (broadcastInDim S16 ![] bcast_S_S16 (constant (F := Ideal) S_ .f32 0x00000000#32)) X
    (broadcastInDim S16384 ![] bcast_S_S16384 (constant (F := Ideal) S_ .f32 0x3F800000#32)) (ix1 e) : EReal) = _
  unfold Ideal.hostScatterAdd
  refine (congrArg (· + _) h0).trans ((zero_add _).trans ?_)
  rw [Finset.sum_congr rfl fun s _ => h1 s, Finset.sum_filter]
  rw [← Fin.sum_univ_eq_sum_range (fun s => if A s = e.val then (1 : EReal) else 0) 16384]
  refine (Fintype.sum_bijective (fun s : Fin 16384 => (ix1 s : S16384.Idx)) ⟨fun _ _ h => congrFun h 0, fun i => ⟨i 0, (eq_ix1 i).symm⟩⟩ _ _ fun s => ?_).symm
  exact (if_congr (hr s) rfl rfl).symm

theorem rA_apply (C : FVec Ideal S16 .f32) (i : S_.Idx) :
    (rA P C i : EReal) = auxv (fun e => ∑ s ∈ Finset.range 16384, rowN P (Fin.ofNat 16384 s) e.val) (fun e => C (ix1 e)) := by
  have hn : ∀ e : Fin 16, (broadcastInDim S16 ![] bcast_S_S16 (constant (F := Ideal) S_ .f32 0x46800000#32) (ix1 e) : EReal) = ((16384 : ℝ) : EReal) := fun _ => ofBits_n
  have h16 : ∀ e : Fin 16, (broadcastInDim S16 ![] bcast_S_S16 (constant (F := Ideal) S_ .f32 0x41800000#32) (ix1 e) : EReal) = ((16 : ℝ) : EReal) := fun _ => ofBits_16
  have hs : ∀ e : Fin 16, (Host.reduceAdd P (constant S_ .f32 0x00000000#32) reducesTo_S16384x16_S16_d0 h_S_ (ix1 e) : EReal)
      = ∑ s ∈ Finset.range 16384, rowN P (Fin.ofNat 16384 s) e.val := by
    intro e
    refine (Ideal.hostReduceAdd_r2_a0 reducesTo_S16384x16_S16_d0 P _ (ix1 e)).trans ?_
    refine (congrArg (· + _) zero_init).trans ((zero_add _).trans ?_)
    rw [← Fin.sum_univ_eq_sum_range]
    refine Finset.sum_congr rfl fun s _ => ?_
    refine (rowN_apply P s e).trans ?_
    rw [Fin.ofNat_val_eq_self]
  unfold rA auxv
  refine (Ideal.hostReduceAdd_r1_a0 reducesTo_S16_S_d0 _ _ i).trans ?_
  refine (congrArg (· + _) zero_init).trans ((zero_add _).trans ?_)
  refine Finset.sum_congr rfl fun e _ => ?_
  refine congrArg₂ (· * ·) (h16 e) (congrArg₂ (· * ·) (congrArg₂ Ideal.div (hs e) (hn e)) (congrArg (Ideal.div _) (hn e)))

end

end Cert.Proof

end
-- ==== Proof.Algebraic.lean ====
/-
  The kernel's three results are the reference's, when the arguments are real numbers.
-/
module

public import proofs.«01_k».proof.Proof.RefValue

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The entry of an array is a real number when its absolute value is below the top. -/
theorem real_of_lt (a : Ideal .f32) (h : FloatOps.cmpf (F := Ideal) .olt (FloatOps.hostAbsf a) (FloatOps.ofBits (F := Ideal) .f32 0x7F800000#32) = 1#1) :
    ∃ r : ℝ, (a : EReal) = (r : EReal) := by
  have ht : (Ideal.ofBits .f32 0x7F800000#32 : EReal) = ⊤ := by simp [Ideal.ofBits, Ideal.ieee]
  have h1 : BitVec.ofBool (decide (max (a : EReal) (-(a : EReal)) < (Ideal.ofBits .f32 0x7F800000#32 : EReal))) = 1#1 := h
  rw [ht] at h1
  have h2 : max (a : EReal) (-(a : EReal)) < ⊤ := by
    by_contra hn
    rw [decide_eq_false hn] at h1
    exact absurd h1 (by decide)
  have h3 : (a : EReal) ≠ ⊤ := (lt_of_le_of_lt (le_max_left _ _) h2).ne
  have h4 : (a : EReal) ≠ ⊥ := by
    intro hb
    have := lt_of_le_of_lt (le_max_right (a : EReal) (-(a : EReal))) h2
    rw [hb] at this
    exact absurd this (by simp)
  exact ⟨EReal.toReal a, (EReal.coe_toReal h3 h4).symm⟩

theorem real_sum {n : ℕ} (f : Fin n → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  exact (map_sum (⟨⟨fun x : ℝ => (x : EReal), rfl⟩, EReal.coe_add⟩ : ℝ →+ EReal) g Finset.univ).symm

/-- The logits of real arguments are real. -/
theorem lgv_real {x : S16384x2048.Idx → EReal} {w : S16x2048.Idx → EReal} {b : Fin 16 → EReal} (hx : ∀ i, ∃ r : ℝ, x i = (r : EReal))
    (hw : ∀ i, ∃ r : ℝ, w i = (r : EReal)) (hb : ∀ i, ∃ r : ℝ, b i = (r : EReal)) (s : Fin 16384) (e : Fin 16) : ∃ r : ℝ, lgv x w b s e = (r : EReal) := by
  obtain ⟨r, hr⟩ := real_sum (fun k : Fin 2048 => x (ix2 s k) * w (ix2 e k)) fun k => by
    obtain ⟨p, hp⟩ := hx (ix2 s k)
    obtain ⟨q, hq⟩ := hw (ix2 e k)
    exact ⟨p * q, by show x (ix2 s k) * w (ix2 e k) = _; rw [hp, hq, EReal.coe_mul]⟩
  obtain ⟨q, hq⟩ := hb e
  exact ⟨r + q, by unfold lgv; rw [hr, hq, EReal.coe_add]⟩

section

variable (m : (ℓ : Loc nD τ sig) → Buf (Elt Ideal) ℓ) (c : Dev nD)

/-- The reference's logits and probabilities of the kernel's arguments. -/
def kL : FVec Ideal Cert.ReferenceIdeal.S16384x16 .f32 :=
  rL (m ((SparseCore.T c : Thread nD τ).loc main_arg0)) (m ((SparseCore.T c : Thread nD τ).loc main_arg1)) (m ((SparseCore.T c : Thread nD τ).loc main_arg2))
def kP : FVec Ideal Cert.ReferenceIdeal.S16384x16 .f32 := rP (kL m c)

theorem row_lgm (s : ℕ) : rowN (kL m c) (Fin.ofNat 16384 s) = lgm m c s := by
  funext e
  exact rL_apply _ _ _ (Fin.ofNat 16384 s) (Fin.ofNat 16 e)

theorem row_pb (s e : ℕ) (he : e < 16) : rowN (kP m c) (Fin.ofNat 16384 s) e = pb (lgm m c s) e := by
  rw [← row_lgm]
  exact rowP (kL m c) (Fin.ofNat 16384 s) e he

/-- The first and the second expert of each token. -/
def eA (s : ℕ) : ℕ := (ordP (kP m c) (Fin.ofNat 16384 s) 0).val
def eB (s : ℕ) : ℕ := (ordP (kP m c) (Fin.ofNat 16384 s) 1).val

theorem e_top (s : ℕ) : IsTop (pb (lgm m c s)) 16 (eA m c s) (eB m c s) :=
  IsTop.congr (fun i hi j hj => by rw [row_pb m c s i hi, row_pb m c s j hj]) (ordP_isTop (kP m c) (Fin.ofNat 16384 s))

theorem kI_apply (s : Fin 16384) : rI (kP m c) (ix2 s 0) = BitVec.ofNat 32 (eA m c s.val) ∧ rI (kP m c) (ix2 s 1) = BitVec.ofNat 32 (eB m c s.val) := by
  have h0 := (topK_apply (kP m c) s 0 0 rfl).2
  have h1 := (topK_apply (kP m c) s 1 1 rfl).2
  unfold eA eB
  rw [Fin.ofNat_val_eq_self]
  exact ⟨h0, h1⟩

theorem kV_apply (s : Fin 16384) : (rV (kP m c) (ix2 s 0) : EReal) = pb (lgm m c s.val) (eA m c s.val) ∧ (rV (kP m c) (ix2 s 1) : EReal) = pb (lgm m c s.val) (eB m c s.val) := by
  have h0 := (topK_apply (kP m c) s 0 0 rfl).1
  have h1 := (topK_apply (kP m c) s 1 1 rfl).1
  have k : ∀ e : Fin 16, (kP m c (ix2 s e) : EReal) = pb (lgm m c s.val) e.val := fun e => by
    have h := row_pb m c s.val e.val e.isLt
    rw [Fin.ofNat_val_eq_self] at h
    exact (rowN_apply (kP m c) s e).trans h
  unfold eA eB
  rw [Fin.ofNat_val_eq_self]
  exact ⟨h0.trans (k _), h1.trans (k _)⟩

variable (hF : ∀ s, Fin16 (lgm m c s))

include hF

omit hF in
theorem two_ext {α : Type} (f g : S16384x2.Idx → α) (h : ∀ s : Fin 16384, f (ix2 s 0) = g (ix2 s 0) ∧ f (ix2 s 1) = g (ix2 s 1)) : f = g := by
  funext i
  have hi : i = ix2 (i 0) (i 1) := eq_ix2 i
  rw [hi]
  have h1 : (i 1).val < 2 := (i 1).isLt
  rcases (show (i 1).val = 0 ∨ (i 1).val = 1 by omega) with hj | hj
  · have : i 1 = (0 : Fin 2) := Fin.ext hj
    rw [this]; exact (h (i 0)).1
  · have : i 1 = (1 : Fin 2) := Fin.ext hj
    rw [this]; exact (h (i 0)).2

theorem res8_eq : rI (kP m c) = res8 m c := two_ext _ _ fun s => by
  have h := res8_apply m c hF _ _ (e_top m c) s
  have h' := kI_apply m c s
  exact ⟨h'.1.trans h.1.symm, h'.2.trans h.2.symm⟩

theorem res11_eq : rW (rV (kP m c)) = res11 m c := two_ext _ _ fun s => by
  have h := res11_apply m c hF _ _ (e_top m c) s
  have h' := kV_apply m c s
  have h0 := rW_apply (rV (kP m c)) s 0
  have h1 := rW_apply (rV (kP m c)) s 1
  rw [h'.1, h'.2] at h0 h1
  exact ⟨h0.trans h.1.symm, h1.trans h.2.symm⟩

theorem res5_eq : rA (kP m c) (rC (rX (rF (rI (kP m c))))) = res5 m c := by
  funext i
  have h := res5_apply m c hF _ _ (e_top m c) i
  refine (rA_apply (kP m c) _ i).trans (Eq.trans ?_ h.symm)
  refine congrArg₂ auxv (funext fun e => Finset.sum_congr rfl fun s _ => row_pb m c s e.val e.isLt) (funext fun e => ?_)
  exact rC_apply _ (eA m c) (fun s => (e_top m c s).lt_a) (fun s => rX_apply _ s _ (e_top m c s.val).lt_a ((rF_apply _ s).trans (kI_apply m c s).1)) e

end

end Cert.Proof

end
-- ==== Proof.lean ====
/-
  The proof of the claims: the program's run, taken once over any float values, gives both frames and, over the
  extended reals, the reference's three results.
-/
module

public import proofs.«01_k».proof.Defs
public import proofs.«01_k».proof.Proof.Main
public import proofs.«01_k».proof.Proof.Algebraic
public import proofs.«01_k».proof.Proof.Gen.ReferenceIdeal.Run
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The program over any float values ends with its arguments kept and its semaphores at zero. -/
theorem frame_any {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (run_main m ρ)

/-- The two printed programs have the same kernels, label by label. -/
theorem kernels_eq {F : FTy → Type} [FloatOps F] : Cert.Kernel.defs₀ (F := F) = Cert.KernelIdeal.defs₀ (F := F) := by
  funext p ℓ a
  match p, ℓ, a with
  | .tc, 0, (t, s) => rfl
  | .tc, 1, a => rfl
  | .tc, 2, (t, s) => rfl
  | .scVector c s, 0, a => rfl
  | .scVector c s, 1, a => rfl
  | .scVector c s, 2, a => rfl
  | .scScalar c, 0, a => rfl
  | .scScalar c, 1, a => rfl
  | .scScalar c, 2, a => rfl

/-- So the two body tables are the same. -/
theorem defs_eq {F : FTy → Type} [FloatOps F] : Cert.Kernel.defs (F := F) = Cert.KernelIdeal.defs (F := F) :=
  congrArg (fun d => Cert.KernelIdeal.sc.defs (Pipeline.defs Cert.KernelIdeal.pcfgs d)) (kernels_eq (F := F))

set_option maxHeartbeats 2000000 in
/-- The program over bit patterns ends as the one over any float values does. -/
theorem frame_kernel : Cert.quiescent_Kernel := fun m ρ _ => by
  have h := frame_any (F := Bits) m ρ
  rw [← defs_eq (F := Bits)] at h
  exact h

/-- The program over the extended reals. -/
theorem frame_ideal : Cert.quiescent_KernelIdeal := fun m ρ _ => frame_any (F := Ideal) m ρ

/-- And the reference, which has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The shapes of the precondition fit. -/
theorem pre_facts : Cert.Pre_finite.Facts := ⟨by decide, by decide, by decide⟩

/-- The two frames hold of finite arguments too. -/
theorem frame_ideal_finite : Cert.quiescent_KernelIdeal_pre_finite (hPre_finite := pre_facts) := fun m ρ _ => frame_any (F := Ideal) m ρ

theorem frame_reference_finite : Cert.quiescent_ReferenceIdeal_pre_finite (hPre_finite := pre_facts) := fun m ρ _ => frame_reference m ρ trivial

/-- The logits of finite arguments are real. -/
theorem logits_real (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) (s : ℕ) : Fin16 (lgm m c s) := by
  have h' := h c
  refine fun e _ => lgv_real (fun i => real_of_lt _ (congrFun h'.1 i)) (fun i => real_of_lt _ (congrFun h'.2.1 i))
    (fun i => real_of_lt _ (congrFun h'.2.2 (ix1 i))) _ _

/-- The kernel's results are the reference's. -/
theorem algebraic : Cert.algebraic_KernelIdeal_ReferenceIdeal_pre_finite (hPre_finite := pre_facts) := by
  intro m g m' g' hp ha
  refine ⟨res8 m, res11 m, res5 m, ?_, ?_⟩
  · exact (θ_run Cert.KernelIdeal.defs _ _).mono (fun _ h c => ⟨(h.1 c).2.2.2.1, (h.1 c).2.2.2.2.1, (h.1 c).2.2.2.2.2, (h.1 c).1, (h.1 c).2.1, (h.1 c).2.2.1⟩)
      (run_main (F := Ideal) m g)
  · refine (θ_run Cert.ReferenceIdeal.defs _ _).mono (fun r h c => ?_) (Cert.ReferenceIdeal.Value.run (F := Ideal) m' g')
    have hc := h c
    have hF := logits_real m hp c
    have e0 := res8_eq m c hF
    have e1 := res11_eq m c hF
    have e2 := res5_eq m c hF
    unfold kP kL at e0 e1 e2
    rw [← (ha c).1, ← (ha c).2.1, ← (ha c).2.2] at e0 e1 e2
    exact ⟨hc.1.trans e0, hc.2.1.trans e1, hc.2.2.1.trans e2, hc.2.2.2⟩

theorem claim : Cert.Claim :=
  ⟨Cert.Kernel.Gen.facts, Cert.KernelIdeal.Gen.facts, Cert.ReferenceIdeal.Gen.facts, pre_facts, frame_kernel, frame_ideal, frame_ideal_finite, frame_reference,
    frame_reference_finite, trivial, algebraic⟩

end Cert.Proof

end
